-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x1x7168 : Shape := ⟨3, ![5, 1, 7168]⟩
abbrev S5x1x8x128 : Shape := ⟨4, ![5, 1, 8, 128]⟩
abbrev S5x8x65536x128 : Shape := ⟨4, ![5, 8, 65536, 128]⟩
abbrev S5x8x65536 : Shape := ⟨3, ![5, 8, 65536]⟩
abbrev S5x8x256x128 : Shape := ⟨4, ![5, 8, 256, 128]⟩
abbrev S5x8x256 : Shape := ⟨3, ![5, 8, 256]⟩
abbrev S5x8x16384 : Shape := ⟨3, ![5, 8, 16384]⟩
abbrev S1x1x7168 : Shape := ⟨3, ![1, 1, 7168]⟩
abbrev S1x1x8x128 : Shape := ⟨4, ![1, 1, 8, 128]⟩
abbrev S1x8x256x128 : Shape := ⟨4, ![1, 8, 256, 128]⟩
abbrev S1x8x256 : Shape := ⟨3, ![1, 8, 256]⟩
abbrev S1x8x2048x128 : Shape := ⟨4, ![1, 8, 2048, 128]⟩
abbrev S1x8x2048 : Shape := ⟨3, ![1, 8, 2048]⟩
abbrev S1x8x512 : Shape := ⟨3, ![1, 8, 512]⟩
abbrev S8x16x256 : Shape := ⟨3, ![8, 16, 256]⟩
abbrev S8x8x128 : Shape := ⟨3, ![8, 8, 128]⟩
abbrev S8x8x2048 : Shape := ⟨3, ![8, 8, 2048]⟩
abbrev S8x128 : Shape := ⟨2, ![8, 128]⟩
abbrev S1x128 : Shape := ⟨2, ![1, 128]⟩
abbrev S1x1x128 : Shape := ⟨3, ![1, 1, 128]⟩
abbrev S8x256 : Shape := ⟨2, ![8, 256]⟩
abbrev S16x256 : Shape := ⟨2, ![16, 256]⟩
abbrev S1x16x256 : Shape := ⟨3, ![1, 16, 256]⟩
abbrev S1x1x256x128 : Shape := ⟨4, ![1, 1, 256, 128]⟩
abbrev S256x128 : Shape := ⟨2, ![256, 128]⟩
abbrev S1x1x256 : Shape := ⟨3, ![1, 1, 256]⟩
abbrev S1x256 : Shape := ⟨2, ![1, 256]⟩
abbrev S8 : Shape := ⟨1, ![8]⟩
abbrev S8x1 : Shape := ⟨2, ![8, 1]⟩
abbrev S1x8x128 : Shape := ⟨3, ![1, 8, 128]⟩
abbrev S256x256 : Shape := ⟨2, ![256, 256]⟩

abbrev nBuf : Space → Nat
  | .hbm => 13
  | .vmem => 31
  | .smem => 0
  | _ => 0

abbrev bufTy : (tb : Table) → Fin (tcTables nBuf tb) → BufTy
  | .hbm, ⟨0, _⟩ => ⟨S5x1x7168, .bf16⟩
  | .hbm, ⟨1, _⟩ => ⟨S5x1x8x128, .bf16⟩
  | .hbm, ⟨2, _⟩ => ⟨S5x1x8x128, .bf16⟩
  | .hbm, ⟨3, _⟩ => ⟨S5x8x65536x128, .i8⟩
  | .hbm, ⟨4, _⟩ => ⟨S5x8x65536x128, .i8⟩
  | .hbm, ⟨5, _⟩ => ⟨S5x8x65536, .f32⟩
  | .hbm, ⟨6, _⟩ => ⟨S5x8x65536, .f32⟩
  | .hbm, ⟨7, _⟩ => ⟨S5x8x256x128, .fp8e4m3⟩
  | .hbm, ⟨8, _⟩ => ⟨S5x8x256x128, .fp8e4m3⟩
  | .hbm, ⟨9, _⟩ => ⟨S5x8x256, .f32⟩
  | .hbm, ⟨10, _⟩ => ⟨S5x8x256, .f32⟩
  | .hbm, ⟨11, _⟩ => ⟨S5x8x16384, .i32⟩
  | .hbm, ⟨12, _⟩ => ⟨S5x1x7168, .bf16⟩
  | .local _ .vmem, ⟨0, _⟩ => ⟨S1x1x7168, .bf16⟩
  | .local _ .vmem, ⟨1, _⟩ => ⟨S1x1x7168, .bf16⟩
  | .local _ .vmem, ⟨2, _⟩ => ⟨S1x1x8x128, .bf16⟩
  | .local _ .vmem, ⟨3, _⟩ => ⟨S1x1x8x128, .bf16⟩
  | .local _ .vmem, ⟨4, _⟩ => ⟨S1x1x8x128, .bf16⟩
  | .local _ .vmem, ⟨5, _⟩ => ⟨S1x1x8x128, .bf16⟩
  | .local _ .vmem, ⟨6, _⟩ => ⟨S1x8x256x128, .fp8e4m3⟩
  | .local _ .vmem, ⟨7, _⟩ => ⟨S1x8x256x128, .fp8e4m3⟩
  | .local _ .vmem, ⟨8, _⟩ => ⟨S1x8x256x128, .fp8e4m3⟩
  | .local _ .vmem, ⟨9, _⟩ => ⟨S1x8x256x128, .fp8e4m3⟩
  | .local _ .vmem, ⟨10, _⟩ => ⟨S1x8x256, .f32⟩
  | .local _ .vmem, ⟨11, _⟩ => ⟨S1x8x256, .f32⟩
  | .local _ .vmem, ⟨12, _⟩ => ⟨S1x8x256, .f32⟩
  | .local _ .vmem, ⟨13, _⟩ => ⟨S1x8x256, .f32⟩
  | .local _ .vmem, ⟨14, _⟩ => ⟨S1x8x2048x128, .i8⟩
  | .local _ .vmem, ⟨15, _⟩ => ⟨S1x8x2048x128, .i8⟩
  | .local _ .vmem, ⟨16, _⟩ => ⟨S1x8x2048x128, .i8⟩
  | .local _ .vmem, ⟨17, _⟩ => ⟨S1x8x2048x128, .i8⟩
  | .local _ .vmem, ⟨18, _⟩ => ⟨S1x8x2048, .f32⟩
  | .local _ .vmem, ⟨19, _⟩ => ⟨S1x8x2048, .f32⟩
  | .local _ .vmem, ⟨20, _⟩ => ⟨S1x8x2048, .f32⟩
  | .local _ .vmem, ⟨21, _⟩ => ⟨S1x8x2048, .f32⟩
  | .local _ .vmem, ⟨22, _⟩ => ⟨S1x8x512, .i32⟩
  | .local _ .vmem, ⟨23, _⟩ => ⟨S1x8x512, .i32⟩
  | .local _ .vmem, ⟨24, _⟩ => ⟨S1x1x7168, .bf16⟩
  | .local _ .vmem, ⟨25, _⟩ => ⟨S1x1x7168, .bf16⟩
  | .local _ .vmem, ⟨26, _⟩ => ⟨S8x16x256, .bf16⟩
  | .local _ .vmem, ⟨27, _⟩ => ⟨S8x8x128, .f32⟩
  | .local _ .vmem, ⟨28, _⟩ => ⟨S8x8x128, .f32⟩
  | .local _ .vmem, ⟨29, _⟩ => ⟨S8x8x128, .f32⟩
  | .local _ .vmem, ⟨30, _⟩ => ⟨S8x8x2048, .f32⟩
  | _, _ => ⟨S5x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![5, 32], ![false, false]⟩

def k0_cond2 (i : grid0.Coords) : BitVec 1 :=
  let arg1 : BitVec 32 := BitVec.ofNat 32 (i 1).val
  let c31_i32 : BitVec 32 := 31#32
  let v4308 : BitVec 1 := Scalar.cmpi .eq arg1 c31_i32
  let v4309 : BitVec 32 := Scalar.extui v4308
  let c0_i32_2781 : BitVec 32 := 0#32
  let v4310 : BitVec 1 := Scalar.cmpi .ne v4309 c0_i32_2781
  v4310

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x256x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x2048x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2048x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x7168 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | "score_scale" => some (((Real.sqrt 128)⁻¹ * (Real.log 2)⁻¹ : ℝ) : EReal)
  | _ => none
-- ==== ReferenceIdeal.lean ====
abbrev S5x1x7168 : Shape := ⟨3, ![5, 1, 7168]⟩
abbrev S5x1x8x128 : Shape := ⟨4, ![5, 1, 8, 128]⟩
abbrev S5x8x65536x128 : Shape := ⟨4, ![5, 8, 65536, 128]⟩
abbrev S5x8x65536 : Shape := ⟨3, ![5, 8, 65536]⟩
abbrev S5x8x256x128 : Shape := ⟨4, ![5, 8, 256, 128]⟩
abbrev S5x8x256 : Shape := ⟨3, ![5, 8, 256]⟩
abbrev S5x8x16384 : Shape := ⟨3, ![5, 8, 16384]⟩
abbrev S_ : Shape := ⟨0, ![]⟩
abbrev S5x8x7x128x4x128 : Shape := ⟨6, ![5, 8, 7, 128, 4, 128]⟩
abbrev S5x8x1x128x1x128 : Shape := ⟨6, ![5, 8, 1, 128, 1, 128]⟩
abbrev S5x8x7x65536 : Shape := ⟨4, ![5, 8, 7, 65536]⟩
abbrev S5x8x7x128 : Shape := ⟨4, ![5, 8, 7, 128]⟩
abbrev S5x8x1x65536 : Shape := ⟨4, ![5, 8, 1, 65536]⟩
abbrev S5x8x7x256 : Shape := ⟨4, ![5, 8, 7, 256]⟩
abbrev S5x8x1x256 : Shape := ⟨4, ![5, 8, 1, 256]⟩
abbrev S5x8x128 : Shape := ⟨3, ![5, 8, 128]⟩
abbrev S5x8x7 : Shape := ⟨3, ![5, 8, 7]⟩
abbrev S5x8x7x1 : Shape := ⟨4, ![5, 8, 7, 1]⟩
abbrev S5x8x1x128 : Shape := ⟨4, ![5, 8, 1, 128]⟩

abbrev nBuf : Space → Nat
  | .hbm => 103
  | .vmem => 4
  | .smem => 0
  | _ => 0

abbrev bufTy : (tb : Table) → Fin (tcTables nBuf tb) → BufTy
  | .hbm, ⟨0, _⟩ => ⟨S5x1x7168, .bf16⟩
  | .hbm, ⟨1, _⟩ => ⟨S5x1x8x128, .bf16⟩
  | .hbm, ⟨2, _⟩ => ⟨S5x1x8x128, .bf16⟩
  | .hbm, ⟨3, _⟩ => ⟨S5x8x65536x128, .i8⟩
  | .hbm, ⟨4, _⟩ => ⟨S5x8x65536x128, .i8⟩
  | .hbm, ⟨5, _⟩ => ⟨S5x8x65536, .f32⟩
  | .hbm, ⟨6, _⟩ => ⟨S5x8x65536, .f32⟩
  | .hbm, ⟨7, _⟩ => ⟨S5x8x256x128, .fp8e4m3⟩
  | .hbm, ⟨8, _⟩ => ⟨S5x8x256x128, .fp8e4m3⟩
  | .hbm, ⟨9, _⟩ => ⟨S5x8x256, .f32⟩
  | .hbm, ⟨10, _⟩ => ⟨S5x8x256, .f32⟩
  | .hbm, ⟨11, _⟩ => ⟨S5x8x16384, .i32⟩
  | .hbm, ⟨12, _⟩ => ⟨S5x8x256x128, .bf16⟩
  | .hbm, ⟨13, _⟩ => ⟨S5x8x256x128, .bf16⟩
  | .hbm, ⟨14, _⟩ => ⟨S5x8x65536x128, .i32⟩
  | .hbm, ⟨15, _⟩ => ⟨S5x8x65536x128, .bf16⟩
  | .hbm, ⟨16, _⟩ => ⟨S5x8x65536x128, .i32⟩
  | .hbm, ⟨17, _⟩ => ⟨S5x8x65536x128, .bf16⟩
  | .hbm, ⟨18, _⟩ => ⟨S_, .f32⟩
  | .hbm, ⟨19, _⟩ => ⟨S_, .f32⟩
  | .hbm, ⟨20, _⟩ => ⟨S5x8x7x128x4x128, .i32⟩
  | .hbm, ⟨21, _⟩ => ⟨S_, .i32⟩
  | .hbm, ⟨22, _⟩ => ⟨S5x8x7x128x4x128, .i32⟩
  | .hbm, ⟨23, _⟩ => ⟨S5x8x7x128x4x128, .i32⟩
  | .hbm, ⟨24, _⟩ => ⟨S5x8x7x128x4x128, .i32⟩
  | .hbm, ⟨25, _⟩ => ⟨S5x8x7x128x4x128, .i32⟩
  | .hbm, ⟨26, _⟩ => ⟨S5x8x1x128x1x128, .i32⟩
  | .hbm, ⟨27, _⟩ => ⟨S5x8x7x128x4x128, .i32⟩
  | .hbm, ⟨28, _⟩ => ⟨S5x8x7x128x4x128, .i32⟩
  | .hbm, ⟨29, _⟩ => ⟨S_, .i32⟩
  | .hbm, ⟨30, _⟩ => ⟨S5x8x7x128x4x128, .i32⟩
  | .hbm, ⟨31, _⟩ => ⟨S5x8x7x128x4x128, .i32⟩
  | .hbm, ⟨32, _⟩ => ⟨S_, .i32⟩
  | .hbm, ⟨33, _⟩ => ⟨S5x8x7x128x4x128, .i32⟩
  | .hbm, ⟨34, _⟩ => ⟨S5x8x7x128x4x128, .i1⟩
  | .hbm, ⟨35, _⟩ => ⟨S5x8x7x65536, .i1⟩
  | .hbm, ⟨36, _⟩ => ⟨S5x8x7x128, .bf16⟩
  | .hbm, ⟨37, _⟩ => ⟨S5x8x7x65536, .f32⟩
  | .hbm, ⟨38, _⟩ => ⟨S5x8x1x65536, .f32⟩
  | .hbm, ⟨39, _⟩ => ⟨S5x8x7x65536, .f32⟩
  | .hbm, ⟨40, _⟩ => ⟨S5x8x7x65536, .f32⟩
  | .hbm, ⟨41, _⟩ => ⟨S5x8x7x65536, .f32⟩
  | .hbm, ⟨42, _⟩ => ⟨S5x8x7x65536, .f32⟩
  | .hbm, ⟨43, _⟩ => ⟨S_, .f32⟩
  | .hbm, ⟨44, _⟩ => ⟨S_, .f32⟩
  | .hbm, ⟨45, _⟩ => ⟨S5x8x7x65536, .f32⟩
  | .hbm, ⟨46, _⟩ => ⟨S5x8x7x65536, .f32⟩
  | .hbm, ⟨47, _⟩ => ⟨S5x8x7x256, .f32⟩
  | .hbm, ⟨48, _⟩ => ⟨S5x8x1x256, .f32⟩
  | .hbm, ⟨49, _⟩ => ⟨S5x8x7x256, .f32⟩
  | .hbm, ⟨50, _⟩ => ⟨S5x8x7x256, .f32⟩
  | .hbm, ⟨51, _⟩ => ⟨S5x8x7x256, .f32⟩
  | .hbm, ⟨52, _⟩ => ⟨S5x8x7x256, .f32⟩
  | .hbm, ⟨53, _⟩ => ⟨S5x8x128, .bf16⟩
  | .hbm, ⟨54, _⟩ => ⟨S5x8x7, .f32⟩
  | .hbm, ⟨55, _⟩ => ⟨S5x8x7, .f32⟩
  | .hbm, ⟨56, _⟩ => ⟨S5x8x7, .f32⟩
  | .hbm, ⟨57, _⟩ => ⟨S_, .f32⟩
  | .hbm, ⟨58, _⟩ => ⟨S5x8x7, .f32⟩
  | .hbm, ⟨59, _⟩ => ⟨S_, .f32⟩
  | .hbm, ⟨60, _⟩ => ⟨S5x8x7, .f32⟩
  | .hbm, ⟨61, _⟩ => ⟨S5x8x7, .f32⟩
  | .hbm, ⟨62, _⟩ => ⟨S5x8x7, .f32⟩
  | .hbm, ⟨63, _⟩ => ⟨S5x8x7x1, .f32⟩
  | .hbm, ⟨64, _⟩ => ⟨S5x8x7x65536, .f32⟩
  | .hbm, ⟨65, _⟩ => ⟨S5x8x7x65536, .f32⟩
  | .hbm, ⟨66, _⟩ => ⟨S5x8x7x65536, .f32⟩
  | .hbm, ⟨67, _⟩ => ⟨S5x8x7x1, .f32⟩
  | .hbm, ⟨68, _⟩ => ⟨S5x8x7x256, .f32⟩
  | .hbm, ⟨69, _⟩ => ⟨S5x8x7x256, .f32⟩
  | .hbm, ⟨70, _⟩ => ⟨S5x8x7x256, .f32⟩
  | .hbm, ⟨71, _⟩ => ⟨S5x8x7, .f32⟩
  | .hbm, ⟨72, _⟩ => ⟨S5x8x7, .f32⟩
  | .hbm, ⟨73, _⟩ => ⟨S_, .f32⟩
  | .hbm, ⟨74, _⟩ => ⟨S5x8x7, .f32⟩
  | .hbm, ⟨75, _⟩ => ⟨S_, .f32⟩
  | .hbm, ⟨76, _⟩ => ⟨S5x8x7, .f32⟩
  | .hbm, ⟨77, _⟩ => ⟨S5x8x7, .f32⟩
  | .hbm, ⟨78, _⟩ => ⟨S5x8x7, .f32⟩
  | .hbm, ⟨79, _⟩ => ⟨S5x8x1x65536, .f32⟩
  | .hbm, ⟨80, _⟩ => ⟨S5x8x7x65536, .f32⟩
  | .hbm, ⟨81, _⟩ => ⟨S5x8x7x65536, .f32⟩
  | .hbm, ⟨82, _⟩ => ⟨S5x8x7x65536, .bf16⟩
  | .hbm, ⟨83, _⟩ => ⟨S5x8x1x256, .f32⟩
  | .hbm, ⟨84, _⟩ => ⟨S5x8x7x256, .f32⟩
  | .hbm, ⟨85, _⟩ => ⟨S5x8x7x256, .f32⟩
  | .hbm, ⟨86, _⟩ => ⟨S5x8x7x256, .bf16⟩
  | .hbm, ⟨87, _⟩ => ⟨S5x8x7x128, .f32⟩
  | .hbm, ⟨88, _⟩ => ⟨S5x8x7x128, .f32⟩
  | .hbm, ⟨89, _⟩ => ⟨S5x8x7x1, .f32⟩
  | .hbm, ⟨90, _⟩ => ⟨S5x8x128, .bf16⟩
  | .hbm, ⟨91, _⟩ => ⟨S5x8x128, .f32⟩
  | .hbm, ⟨92, _⟩ => ⟨S5x8x1x128, .f32⟩
  | .hbm, ⟨93, _⟩ => ⟨S5x8x7x128, .f32⟩
  | .hbm, ⟨94, _⟩ => ⟨S5x8x7x128, .f32⟩
  | .hbm, ⟨95, _⟩ => ⟨S5x8x7x128, .f32⟩
  | .hbm, ⟨96, _⟩ => ⟨S5x8x7x128, .f32⟩
  | .hbm, ⟨97, _⟩ => ⟨S5x8x7x128, .f32⟩
  | .hbm, ⟨98, _⟩ => ⟨S5x8x7x1, .f32⟩
  | .hbm, ⟨99, _⟩ => ⟨S5x8x7x128, .f32⟩
  | .hbm, ⟨100, _⟩ => ⟨S5x8x7x128, .f32⟩
  | .hbm, ⟨101, _⟩ => ⟨S5x1x7168, .f32⟩
  | .hbm, ⟨102, _⟩ => ⟨S5x1x7168, .bf16⟩
  | .local _ .vmem, ⟨0, _⟩ => ⟨S5x8x256x128, .fp8e4m3⟩
  | .local _ .vmem, ⟨1, _⟩ => ⟨S5x8x256x128, .fp8e4m3⟩
  | .local _ .vmem, ⟨2, _⟩ => ⟨S5x8x256x128, .bf16⟩
  | .local _ .vmem, ⟨3, _⟩ => ⟨S5x8x256x128, .bf16⟩
  | _, _ => ⟨S5x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5x8x256x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x8x256x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Step.lean ====
/- One block of one group of heads, as the body computes it: the scores of its 2048 tokens in sixteen tiles of 128, the
   running maximum, denominator and numerator after it. Stated once for a group `g`; the body unrolls eight of them. -/
module

public import proofs.«01_k».proof.Proof.Gen.KernelIdeal.Frame
public import Idealize.ShloMosaic.Lib.Pipeline.ReadBack

@[expose] public section

set_option maxRecDepth 16384

noncomputable section

namespace Cert.KernelIdeal.Step

open Idealize.ShloMosaic Idealize.ShloMosaic.TcCoe Idealize.ShloMosaic.Tactic
open Cert.KernelIdeal.Gen

variable {F : FTy → Type} [FloatOps F] [Named F] {f : FTy}

theorem inb3 (g : Fin 8) : ∀ a, (![g.val, 0, 0] : Fin 3 → ℕ) a + S1x8x128.size a ≤ S8x8x128.size a := by
  intro a; have := g.isLt; fin_cases a <;> simp [S1x8x128, S8x8x128] <;> omega

theorem inbQ (g : Fin 8) : ∀ a, (![g.val, 0, 0] : Fin 3 → ℕ) a + S1x16x256.size a ≤ S8x16x256.size a := by
  intro a; have := g.isLt; fin_cases a <;> simp [S1x16x256, S8x16x256] <;> omega

theorem inbK (g j : Fin 8) : ∀ a, (![0, g.val, 256 * j.val, 0] : Fin 4 → ℕ) a + S1x1x256x128.size a ≤ S1x8x2048x128.size a := by
  intro a; have := g.isLt; have := j.isLt; fin_cases a <;> simp [S1x1x256x128, S1x8x2048x128] <;> omega

theorem inbS (g : Fin 8) (k : Fin 16) : ∀ a, (![0, g.val, 128 * k.val] : Fin 3 → ℕ) a + S1x1x128.size a ≤ S1x8x2048.size a := by
  intro a; have := g.isLt; have := k.isLt; fin_cases a <;> simp [S1x1x128, S1x8x2048] <;> omega

theorem inbW (g : Fin 8) (c : Fin 4) : ∀ a, (![0, g.val, 128 * c.val] : Fin 3 → ℕ) a + S1x1x128.size a ≤ S1x8x512.size a := by
  intro a; have := g.isLt; have := c.isLt; fin_cases a <;> simp [S1x1x128, S1x8x512] <;> omega

theorem slice2 (k : Fin 16) : S16x256.Slices ![8 * (k.val % 4 / 2), 128 * (k.val % 2)] S8x128 := by
  have : ∀ k : Fin 16, S16x256.Slices ![8 * (k.val % 4 / 2), 128 * (k.val % 2)] S8x128 := by decide
  exact this k

/-- Group `g`'s stacked queries. -/
def ldQ (q : Vec F S8x16x256 .bf16) (g : Fin 8) : Vec F S1x16x256 .bf16 := View.ld q (Rect.unit (s := S8x16x256) ![g.val, 0, 0] S1x16x256.size (inbQ g))

/-- Group `g`'s plane of a running value. -/
def ld3 (m : Vec F S8x8x128 .f32) (g : Fin 8) : Vec F S1x8x128 .f32 := View.ld m (Rect.unit (s := S8x8x128) ![g.val, 0, 0] S1x8x128.size (inb3 g))

/-- Tokens `256 j …` of group `g`'s codes. -/
def ldK (x : Vec F S1x8x2048x128 .i8) (g j : Fin 8) : Vec F S1x1x256x128 .i8 :=
  View.ld x (Rect.unit (s := S1x8x2048x128) ![0, g.val, 256 * j.val, 0] S1x1x256x128.size (inbK g j))

/-- Tokens `128 k …` of group `g`'s scales. -/
def ldS (x : Vec F S1x8x2048 .f32) (g : Fin 8) (k : Fin 16) : Vec F S1x1x128 .f32 :=
  View.ld x (Rect.unit (s := S1x8x2048) ![0, g.val, 128 * k.val] S1x1x128.size (inbS g k))

/-- The words of chunk `c`. -/
def ldW (x : Vec F S1x8x512 .i32) (g : Fin 8) (c : Fin 4) : Vec F S1x1x128 .i32 :=
  View.ld x (Rect.unit (s := S1x8x512) ![0, g.val, 128 * c.val] S1x1x128.size (inbW g c))

/-- Two matrices side by side, or one above the other. -/
def beside (a b : FVec F S8x128 f) : FVec F S8x256 f := concatenate S8x256 1 [⟨S8x128, a⟩, ⟨S8x128, b⟩] concatenates_S8x128_S8x128_S8x256_d1

def above (a b : FVec F S8x256 f) : FVec F S16x256 f := concatenate S16x256 0 [⟨S8x256, a⟩, ⟨S8x256, b⟩] concatenates_S8x256_S8x256_S16x256_d0

def beside256 (a b : FVec F S256x128 f) : FVec F S256x256 f :=
  concatenate S256x256 1 [⟨S256x128, a⟩, ⟨S256x128, b⟩] concatenates_S256x128_S256x128_S256x256_d1

theorem beside_eq (a b : FVec F S8x128 f) (h) : concatenate S8x256 1 [⟨S8x128, a⟩, ⟨S8x128, b⟩] h = beside a b := rfl

theorem above_eq (a b : FVec F S8x256 f) (h) : concatenate S16x256 0 [⟨S8x256, a⟩, ⟨S8x256, b⟩] h = above a b := rfl

theorem beside256_eq (a b : FVec F S256x128 f) (h) : concatenate S256x256 1 [⟨S256x128, a⟩, ⟨S256x128, b⟩] h = beside256 a b := rfl

/-- The codes of chunk `c`, its two halves side by side. -/
def pair (x : Vec F S1x8x2048x128 .i8) (g : Fin 8) (c : Fin 4) : FVec F S256x256 .bf16 :=
  beside256 (sitofp .bf16 (shapeCast S256x128 (ldK x g ⟨2 * c.val, by omega⟩) shapeCasts_S1x1x256x128_S256x128))
    (sitofp .bf16 (shapeCast S256x128 (ldK x g ⟨2 * c.val + 1, by omega⟩) shapeCasts_S1x1x256x128_S256x128))

/-- The products of the stacked queries with chunk `c`'s keys. -/
def dots (q : Vec F S1x16x256 .bf16) (x7 : Vec F S1x8x2048x128 .i8) (g : Fin 8) (c : Fin 4) : FVec F S16x256 .f32 :=
  matmul dot_S16x256_S256x256_S16x256_1_1_0_0_n_n none (shapeCast S16x256 q shapeCasts_S1x16x256_S16x256) (pair x7 g c)
    (constant S16x256 .f32 0#32)

/-- Tile `k`'s masked scores. -/
def tile (q : Vec F S1x16x256 .bf16) (x7 : Vec F S1x8x2048x128 .i8) (x9 : Vec F S1x8x2048 .f32) (x11 : Vec F S1x8x512 .i32) (g : Fin 8) (k : Fin 16) :
    FVec F S8x128 .f32 :=
  select
    (cmpi .ne
      (andi
        (broadcastTo S8x128 (shapeCast S1x128 (shapeCast S1x128 (ldW x11 g ⟨k.val / 4, by omega⟩) shapeCasts_S1x1x128_S1x128) shapeCasts_S1x128_S1x128)
          broadcasts_S1x128_S8x128)
        (shli (broadcast S8x128 1#32) (addi (iota .tc S8x128 32 [0] iota_S8x128_d0_w32) (broadcast S8x128 (BitVec.ofNat 32 (8 * (k.val % 4)))))))
      (broadcast S8x128 0#32))
    (mulf (extractStridedSlice S8x128 ![8 * (k.val % 4 / 2), 128 * (k.val % 2)] (dots q x7 g ⟨k.val / 4, by omega⟩) (slice2 k))
      (broadcastTo S8x128 (mulf (shapeCast S1x128 (ldS x9 g k) shapeCasts_S1x1x128_S1x128) (broadcast S1x128 (Named.named κ "score_scale" 0x3E0293EE#32)))
        broadcasts_S1x128_S8x128))
    (broadcast S8x128 (Named.named κ "mask" 0xF149F2CA#32))

/-- The number below sixteen that `k` is. -/
def cyc (k : ℕ) : Fin 16 := ⟨k % 16, Nat.mod_lt _ (by decide)⟩

/-- The running maximum over the first `n` tiles, lane by lane. -/
def maxes (T : Fin 16 → FVec F S8x128 .f32) : ℕ → FVec F S8x128 .f32
  | 0 => broadcast S8x128 (Named.named κ "mask" 0xF149F2CA#32)
  | n + 1 => maximumf (maxes T n) (T (cyc n))

/-- The maximum after the block. -/
def newM (T : Fin 16 → FVec F S8x128 .f32) (m : Vec F S1x8x128 .f32) : FVec F S8x128 .f32 :=
  maximumf (shapeCast S8x128 m shapeCasts_S1x8x128_S8x128)
    (broadcastTo S8x128 (shapeCast S8x1 (multiReduction .maximumf [1] S8 (maxes T 16) 0xFF800000#32 reduces_S8x128_S8 (.inl rfl) rfl) shapeCasts_S8_S8x1)
      broadcasts_S8x1_S8x128)

/-- Tile `k`'s weights relative to the maximum `M`. The scores were stored and read back. -/
def weight (T : Fin 16 → FVec F S8x128 .f32) (M : FVec F S8x128 .f32) (k : Fin 16) : FVec F S8x128 .f32 :=
  exp2 (subf (shapeCast S8x128 (shapeCast S1x8x128 (T k) shapeCasts_S8x128_S1x8x128) shapeCasts_S1x8x128_S8x128) M)

/-- The sum of the first `n` tiles' weights, lane by lane. -/
def sums (P : Fin 16 → FVec F S8x128 .f32) : ℕ → FVec F S8x128 .f32
  | 0 => broadcast S8x128 (FloatOps.ofBits .f32 0#32)
  | n + 1 => addf (sums P n) (P (cyc n))

/-- Tile `k`'s weights times the scales of its values. -/
def part (P : Fin 16 → FVec F S8x128 .f32) (x10 : Vec F S1x8x2048 .f32) (g : Fin 8) (k : Fin 16) : FVec F S8x128 .f32 :=
  mulf (P k) (broadcastTo S8x128 (shapeCast S1x128 (ldS x10 g k) shapeCasts_S1x1x128_S1x128) broadcasts_S1x128_S8x128)

/-- The sum of the first `n` chunks' products of weights and values. -/
def prods (A : Fin 16 → FVec F S8x128 .f32) (x8 : Vec F S1x8x2048x128 .i8) (g : Fin 8) : ℕ → FVec F S16x256 .f32
  | 0 => broadcast S16x256 (FloatOps.ofBits .f32 0#32)
  | n + 1 => addf (prods A x8 g n)
      (matmul dot_S16x256_S256x256_S16x256_1_0_0_1_n_n none
        (truncf .bf16
          (above (beside (A (cyc (4 * n))) (A (cyc (4 * n + 1)))) (beside (A (cyc (4 * n + 2))) (A (cyc (4 * n + 3))))) bitsLt_bf16_f32)
        (pair x8 g ⟨n % 4, Nat.mod_lt _ (by decide)⟩) (constant S16x256 .f32 0#32))

/-- The factor by which what was accumulated before shrinks. -/
def shrink (m : Vec F S1x8x128 .f32) (M : FVec F S8x128 .f32) : FVec F S8x128 .f32 :=
  exp2 (subf (shapeCast S8x128 m shapeCasts_S1x8x128_S8x128) M)

/-- The maximum stored. -/
def stM (M : FVec F S8x128 .f32) : FVec F S1x8x128 .f32 := shapeCast S1x8x128 M shapeCasts_S8x128_S1x8x128

/-- The denominator stored. -/
def stL (P : Fin 16 → FVec F S8x128 .f32) (al : FVec F S8x128 .f32) (l : Vec F S1x8x128 .f32) : FVec F S1x8x128 .f32 :=
  shapeCast S1x8x128
    (addf (mulf (shapeCast S8x128 l shapeCasts_S1x8x128_S8x128) al)
      (broadcastTo S8x128 (shapeCast S8x1 (multiReduction .add [1] S8 (sums P 16) 0x00000000#32 reduces_S8x128_S8 (.inl rfl) rfl) shapeCasts_S8_S8x1)
        broadcasts_S8x1_S8x128)) shapeCasts_S8x128_S1x8x128

/-- The numerator stored. -/
def stA (A : FVec F S16x256 .f32) (al : FVec F S8x128 .f32) (a : Vec F S1x8x128 .f32) : FVec F S1x8x128 .f32 :=
  shapeCast S1x8x128
    (addf (addf (mulf (shapeCast S8x128 a shapeCasts_S1x8x128_S8x128) al) (extractStridedSlice S8x128 ![0, 0] A slices_S16x256_o0_0_S8x128))
      (extractStridedSlice S8x128 ![8, 128] A slices_S16x256_o8_128_S8x128)) shapeCasts_S8x128_S1x8x128

/-- What the block leaves in group `g`'s plane of the maximum, -/
def planeM (q : Vec F S1x16x256 .bf16) (x7 : Vec F S1x8x2048x128 .i8) (x9 : Vec F S1x8x2048 .f32) (x11 : Vec F S1x8x512 .i32) (m : Vec F S1x8x128 .f32)
    (g : Fin 8) : FVec F S1x8x128 .f32 := stM (newM (tile q x7 x9 x11 g) m)

/-- of the denominator, -/
def planeL (q : Vec F S1x16x256 .bf16) (x7 : Vec F S1x8x2048x128 .i8) (x9 : Vec F S1x8x2048 .f32) (x11 : Vec F S1x8x512 .i32) (m l : Vec F S1x8x128 .f32)
    (g : Fin 8) : FVec F S1x8x128 .f32 :=
  stL (weight (tile q x7 x9 x11 g) (newM (tile q x7 x9 x11 g) m)) (shrink m (newM (tile q x7 x9 x11 g) m)) l

/-- and of the numerator. -/
def planeA (q : Vec F S1x16x256 .bf16) (x7 x8 : Vec F S1x8x2048x128 .i8) (x9 x10 : Vec F S1x8x2048 .f32) (x11 : Vec F S1x8x512 .i32)
    (m a : Vec F S1x8x128 .f32) (g : Fin 8) : FVec F S1x8x128 .f32 :=
  stA (prods (part (weight (tile q x7 x9 x11 g) (newM (tile q x7 x9 x11 g) m)) x10 g) x8 g 4) (shrink m (newM (tile q x7 x9 x11 g) m)) a

/-- An array of eight planes, one a group. -/
def planes (P : Fin 8 → FVec F S1x8x128 .f32) : Vec F S8x8x128 .f32 :=
  fun i => P (i 0) fun a => match a with
    | ⟨0, _⟩ => (0 : Fin 1)
    | ⟨1, _⟩ => (i 1 : Fin 8)
    | ⟨2, _⟩ => (i 2 : Fin 128)

/-- Reading the array at a place of plane `g`. -/
theorem planes_at (P : Fin 8 → FVec F S1x8x128 .f32) (g : Fin 8) (x : S1x8x128.Idx) (y : S8x8x128.Idx)
    (h0 : (y 0 : ℕ) = g + (x 0 : ℕ)) (h1 : (y 1 : ℕ) = x 1) (h2 : (y 2 : ℕ) = x 2) : planes P y = P g x := by
  have hx : (x 0 : ℕ) < 1 := (x 0).isLt
  have hg : (y 0 : Fin 8) = g := Fin.ext (by omega)
  unfold planes
  rw [hg]
  congr 1
  funext a
  match a with
  | ⟨0, _⟩ => exact Fin.ext (by show 0 = (x 0 : ℕ); omega)
  | ⟨1, _⟩ => exact Fin.ext h1
  | ⟨2, _⟩ => exact Fin.ext h2

/-- Writes that cover a place hide the earlier ones there. -/
theorem canon_append_cover {S : Shape} {e : EltTy} {Val : EltTy → Type} [∀ e, Nonempty (Val e)] (L' : List (View.Piece Val S e)) (y : S.Idx) :
    ∀ L : List (View.Piece Val S e), (∃ p ∈ L, y ∈ p.1.set) → View.canon (L ++ L') y = View.canon L y
  | [], h => by simp at h
  | p :: L, h => by
    by_cases hp : y ∈ p.1.set
    · obtain ⟨x, rfl⟩ := p.1.exists_idx_of_mem hp
      exact (View.canon_cons_emb p.1 p.2 _ x).trans (View.canon_cons_emb p.1 p.2 _ x).symm
    · rw [List.cons_append, View.canon_cons_of_not_mem _ _ hp, View.canon_cons_of_not_mem _ _ hp]
      refine canon_append_cover L' y L ?_
      obtain ⟨q, hq, hy⟩ := h
      rcases List.mem_cons.mp hq with rfl | hq
      · exact absurd hy hp
      · exact ⟨q, hq, hy⟩

/-- Writes of all eight planes hide the earlier ones. -/
theorem canon_planes {e : EltTy} {Val : EltTy → Type} [∀ e, Nonempty (Val e)] (w7 w6 w5 w4 w3 w2 w1 w0 : S1x8x128.Idx → Val e)
    (L : List (View.Piece Val S8x8x128 e)) (y : S8x8x128.Idx) :
    View.canon ([⟨Rect.unit (s := S8x8x128) ![7, 0, 0] S1x8x128.size inb_S8x8x128_S1x8x128_7_0_0, w7⟩, ⟨Rect.unit (s := S8x8x128) ![6, 0, 0] S1x8x128.size inb_S8x8x128_S1x8x128_6_0_0, w6⟩, ⟨Rect.unit (s := S8x8x128) ![5, 0, 0] S1x8x128.size inb_S8x8x128_S1x8x128_5_0_0, w5⟩, ⟨Rect.unit (s := S8x8x128) ![4, 0, 0] S1x8x128.size inb_S8x8x128_S1x8x128_4_0_0, w4⟩, ⟨Rect.unit (s := S8x8x128) ![3, 0, 0] S1x8x128.size inb_S8x8x128_S1x8x128_3_0_0, w3⟩, ⟨Rect.unit (s := S8x8x128) ![2, 0, 0] S1x8x128.size inb_S8x8x128_S1x8x128_2_0_0, w2⟩, ⟨Rect.unit (s := S8x8x128) ![1, 0, 0] S1x8x128.size inb_S8x8x128_S1x8x128_1_0_0, w1⟩, ⟨Rect.unit (s := S8x8x128) ![0, 0, 0] S1x8x128.size inb_S8x8x128_S1x8x128_0_0_0, w0⟩] ++ L) y =
      View.canon [⟨Rect.unit (s := S8x8x128) ![7, 0, 0] S1x8x128.size inb_S8x8x128_S1x8x128_7_0_0, w7⟩, ⟨Rect.unit (s := S8x8x128) ![6, 0, 0] S1x8x128.size inb_S8x8x128_S1x8x128_6_0_0, w6⟩, ⟨Rect.unit (s := S8x8x128) ![5, 0, 0] S1x8x128.size inb_S8x8x128_S1x8x128_5_0_0, w5⟩, ⟨Rect.unit (s := S8x8x128) ![4, 0, 0] S1x8x128.size inb_S8x8x128_S1x8x128_4_0_0, w4⟩, ⟨Rect.unit (s := S8x8x128) ![3, 0, 0] S1x8x128.size inb_S8x8x128_S1x8x128_3_0_0, w3⟩, ⟨Rect.unit (s := S8x8x128) ![2, 0, 0] S1x8x128.size inb_S8x8x128_S1x8x128_2_0_0, w2⟩, ⟨Rect.unit (s := S8x8x128) ![1, 0, 0] S1x8x128.size inb_S8x8x128_S1x8x128_1_0_0, w1⟩, ⟨Rect.unit (s := S8x8x128) ![0, 0, 0] S1x8x128.size inb_S8x8x128_S1x8x128_0_0_0, w0⟩] y :=
  canon_append_cover L y _ (View.cover_of_tiled (s := S8x8x128) _ (fun a => S1x8x128.size a) rfl y)

/-- Loading a part of a whole buffer. -/
theorem readAt_unread {sig : RefSig} {κ : Kind} {sp : Space} {s : Shape} {e : EltTy} {Val : EltTy → Type} {M : Memref sig κ sp s e} (h : M.IsWhole)
    (X : s.Idx → Val e) (r : Rect s) : View.readAt Val M.view r.toLoadRect (h.unread X) = View.ld X r := by
  rw [View.readAt_eq_ld, h.read_unread]

end Cert.KernelIdeal.Step

end
-- ==== Proof.Start.lean ====
/- What the first block of a batch row does before its own tokens: group `g`'s queries stacked twice, and the running maximum,
   denominator and numerator over the row's recent tokens and its new one. And what the last block writes out. -/
module

public import proofs.«01_k».proof.Proof.Step
public import Idealize.ShloMosaic.Lib.Pointwise

@[expose] public section

set_option maxRecDepth 16384

noncomputable section

namespace Cert.KernelIdeal.Step

open Idealize.ShloMosaic Idealize.ShloMosaic.TcCoe Idealize.ShloMosaic.Tactic
open Cert.KernelIdeal.Gen

variable {F : FTy → Type} [FloatOps F] [Named F]

theorem inbX (g : Fin 8) (r : Fin 7) : ∀ a, (![0, 0, 896 * g.val + 128 * r.val] : Fin 3 → ℕ) a + S1x1x128.size a ≤ S1x1x7168.size a := by
  intro a; have := g.isLt; have := r.isLt; fin_cases a <;> simp [S1x1x128, S1x1x7168] <;> omega

theorem inbR (g : Fin 8) : ∀ a, (![0, g.val, 0, 0] : Fin 4 → ℕ) a + S1x1x256x128.size a ≤ S1x8x256x128.size a := by
  intro a; have := g.isLt; fin_cases a <;> simp [S1x1x256x128, S1x8x256x128] <;> omega

theorem inbT (g : Fin 8) : ∀ a, (![0, g.val, 0] : Fin 3 → ℕ) a + S1x1x256.size a ≤ S1x8x256.size a := by
  intro a; have := g.isLt; fin_cases a <;> simp [S1x1x256, S1x8x256] <;> omega

theorem inbN : ∀ a, (![0, 0, 0, 0] : Fin 4 → ℕ) a + S1x1x8x128.size a ≤ S1x1x8x128.size a := by
  intro a; fin_cases a <;> simp [S1x1x8x128]

theorem row8 (g : Fin 8) : S8x128.Slices ![g.val, 0] S1x128 := by
  have : ∀ g : Fin 8, S8x128.Slices ![g.val, 0] S1x128 := by decide
  exact this g

/-- Head `r` of group `g`'s query. -/
def ldX (x : Vec F S1x1x7168 .bf16) (g : Fin 8) (r : Fin 7) : FVec F S1x128 .bf16 :=
  shapeCast S1x128 (View.ld x (Rect.unit (s := S1x1x7168) ![0, 0, 896 * g.val + 128 * r.val] S1x1x128.size (inbX g r))) shapeCasts_S1x1x128_S1x128

/-- Group `g`'s recent codes. -/
def ldR (x : Vec F S1x8x256x128 .fp8e4m3) (g : Fin 8) : FVec F S256x128 .bf16 :=
  extf .bf16 (shapeCast S256x128 (View.ld x (Rect.unit (s := S1x8x256x128) ![0, g.val, 0, 0] S1x1x256x128.size (inbR g))) shapeCasts_S1x1x256x128_S256x128)
    bitsLt_fp8e4m3_bf16

/-- Group `g`'s recent scales. -/
def ldT (x : Vec F S1x8x256 .f32) (g : Fin 8) : FVec F S1x256 .f32 :=
  shapeCast S1x256 (View.ld x (Rect.unit (s := S1x8x256) ![0, g.val, 0] S1x1x256.size (inbT g))) shapeCasts_S1x1x256_S1x256

/-- Group `g`'s row of the new key or value. -/
def ldN (x : Vec F S1x1x8x128 .bf16) (g : Fin 8) : FVec F S1x128 .f32 :=
  extractStridedSlice S1x128 ![g.val, 0]
    (extf .f32 (shapeCast S8x128 (View.ld x (Rect.unit (s := S1x1x8x128) ![0, 0, 0, 0] S1x1x8x128.size inbN)) shapeCasts_S1x1x8x128_S8x128) bitsLt_bf16_f32)
    (row8 g)

/-- Eight rows as a matrix. -/
def rows (a b c d e f g h : FVec F S1x128 .bf16) : FVec F S8x128 .bf16 :=
  concatenate S8x128 0 [⟨S1x128, a⟩, ⟨S1x128, b⟩, ⟨S1x128, c⟩, ⟨S1x128, d⟩, ⟨S1x128, e⟩, ⟨S1x128, f⟩, ⟨S1x128, g⟩, ⟨S1x128, h⟩]
    concatenates_S1x128_S1x128_S1x128_S1x128_S1x128_S1x128_S1x128_S1x128_S8x128_d0

theorem rows_eq (a b c d e f g h : FVec F S1x128 .bf16) (w) :
    concatenate S8x128 0 [⟨S1x128, a⟩, ⟨S1x128, b⟩, ⟨S1x128, c⟩, ⟨S1x128, d⟩, ⟨S1x128, e⟩, ⟨S1x128, f⟩, ⟨S1x128, g⟩, ⟨S1x128, h⟩] w =
      rows a b c d e f g h := rfl

/-- The seven heads' queries and a row of zeros. -/
def heads (x : Vec F S1x1x7168 .bf16) (g : Fin 8) : FVec F S8x128 .bf16 :=
  rows (ldX x g 0) (ldX x g 1) (ldX x g 2) (ldX x g 3) (ldX x g 4) (ldX x g 5) (ldX x g 6) (broadcast S1x128 (Scalar.ofBits .bf16 0x0000#16))

/-- The queries twice, on the diagonal of a matrix of zeros. -/
def stacked (q : FVec F S8x128 .bf16) : FVec F S1x16x256 .bf16 :=
  shapeCast S1x16x256
    (above (beside q (broadcast S8x128 (Scalar.ofBits .bf16 0x0000#16))) (beside (broadcast S8x128 (Scalar.ofBits .bf16 0x0000#16)) q))
    shapeCasts_S16x256_S1x16x256

/-- The scores of the recent tokens. -/
def recS (q : FVec F S8x128 .bf16) (x3 : Vec F S1x8x256x128 .fp8e4m3) (x5 : Vec F S1x8x256 .f32) (g : Fin 8) : FVec F S8x256 .f32 :=
  mulf (matmul dot_S8x128_S256x128_S8x256_1_1_0_0_n_n none q (ldR x3 g) (constant S8x256 .f32 0x00000000#32))
    (broadcastTo S8x256 (mulf (ldT x5 g) (broadcast S1x256 (Named.named κ "score_scale" 0x3E0293EE#32))) broadcasts_S1x256_S8x256)

/-- The score of the new token. -/
def newS (q : FVec F S8x128 .bf16) (x1 : Vec F S1x1x8x128 .bf16) (g : Fin 8) : FVec F S8x1 .f32 :=
  mulf
    (shapeCast S8x1
      (multiReduction .add [1] S8 (mulf (extf .f32 q bitsLt_bf16_f32) (broadcastTo S8x128 (ldN x1 g) broadcasts_S1x128_S8x128)) 0x00000000#32
        reduces_S8x128_S8 (.inl rfl) rfl) shapeCasts_S8_S8x1)
    (broadcast S8x1 (Named.named κ "score_scale" 0x3E0293EE#32))

/-- The maximum over both. -/
def fstM (S : FVec F S8x256 .f32) (n : FVec F S8x1 .f32) : FVec F S8x1 .f32 :=
  maximumf (shapeCast S8x1 (multiReduction .maximumf [1] S8 S 0xFF800000#32 reduces_S8x256_S8 (.inl rfl) rfl) shapeCasts_S8_S8x1) n

/-- The recent tokens' weights. -/
def recP (S : FVec F S8x256 .f32) (M : FVec F S8x1 .f32) : FVec F S8x256 .f32 := exp2 (subf S (broadcastTo S8x256 M broadcasts_S8x1_S8x256))

/-- The new token's weight. -/
def newP (n M : FVec F S8x1 .f32) : FVec F S8x1 .f32 := exp2 (subf n M)

/-- The maximum, denominator and numerator the row starts from. -/
def wideM (M : FVec F S8x1 .f32) : FVec F S1x8x128 .f32 :=
  shapeCast S1x8x128 (broadcastTo S8x128 (shapeCast S8x1 M shapeCasts_S8x1_S8x1) broadcasts_S8x1_S8x128) shapeCasts_S8x128_S1x8x128

def wideL (P : FVec F S8x256 .f32) (p : FVec F S8x1 .f32) : FVec F S1x8x128 .f32 :=
  wideM (addf (shapeCast S8x1 (multiReduction .add [1] S8 P 0x00000000#32 reduces_S8x256_S8 (.inl rfl) rfl) shapeCasts_S8_S8x1) p)

def wideA (P : FVec F S8x256 .f32) (p : FVec F S8x1 .f32) (x2 : Vec F S1x1x8x128 .bf16) (x4 : Vec F S1x8x256x128 .fp8e4m3) (x6 : Vec F S1x8x256 .f32)
    (g : Fin 8) : FVec F S1x8x128 .f32 :=
  shapeCast S1x8x128
    (addf
      (matmul dot_S8x256_S256x128_S8x128_1_0_0_1_n_n none (truncf .bf16 (mulf P (broadcastTo S8x256 (ldT x6 g) broadcasts_S1x256_S8x256)) bitsLt_bf16_f32)
        (ldR x4 g) (constant S8x128 .f32 0x00000000#32))
      (mulf (broadcastTo S8x128 p broadcasts_S8x1_S8x128) (broadcastTo S8x128 (ldN x2 g) broadcasts_S1x128_S8x128))) shapeCasts_S8x128_S1x8x128

def startM (x0 : Vec F S1x1x7168 .bf16) (x1 : Vec F S1x1x8x128 .bf16) (x3 : Vec F S1x8x256x128 .fp8e4m3) (x5 : Vec F S1x8x256 .f32) (g : Fin 8) :
    FVec F S8x1 .f32 := fstM (recS (heads x0 g) x3 x5 g) (newS (heads x0 g) x1 g)

def startL (x0 : Vec F S1x1x7168 .bf16) (x1 : Vec F S1x1x8x128 .bf16) (x3 : Vec F S1x8x256x128 .fp8e4m3) (x5 : Vec F S1x8x256 .f32) (g : Fin 8) :
    FVec F S1x8x128 .f32 :=
  wideL (recP (recS (heads x0 g) x3 x5 g) (startM x0 x1 x3 x5 g)) (newP (newS (heads x0 g) x1 g) (startM x0 x1 x3 x5 g))

def startA (x0 : Vec F S1x1x7168 .bf16) (x1 x2 : Vec F S1x1x8x128 .bf16) (x3 x4 : Vec F S1x8x256x128 .fp8e4m3) (x5 x6 : Vec F S1x8x256 .f32) (g : Fin 8) :
    FVec F S1x8x128 .f32 :=
  wideA (recP (recS (heads x0 g) x3 x5 g) (startM x0 x1 x3 x5 g)) (newP (newS (heads x0 g) x1 g) (startM x0 x1 x3 x5 g)) x2 x4 x6 g

/-- The quotient of group `g`'s planes: its seven rows are the heads' results. -/
def ratio (a l : Vec F S1x8x128 .f32) : FVec F S8x128 .bf16 :=
  truncf .bf16 (divf (shapeCast S8x128 a shapeCasts_S1x8x128_S8x128) (shapeCast S8x128 l shapeCasts_S1x8x128_S8x128)) bitsLt_bf16_f32

/-- Column `896 g + 128 h + d` of the output row. -/
def outRow (A L : Vec F S8x8x128 .f32) : Vec F S1x1x7168 .bf16 :=
  fun y => ratio (ld3 A ⟨(y 2 : Fin 7168) / 896, by have h : ((y 2 : Fin 7168) : ℕ) < 7168 := (y 2 : Fin 7168).isLt; exact Nat.div_lt_of_lt_mul h⟩)
    (ld3 L ⟨(y 2 : Fin 7168) / 896, by have h : ((y 2 : Fin 7168) : ℕ) < 7168 := (y 2 : Fin 7168).isLt; exact Nat.div_lt_of_lt_mul h⟩)
    (ix2 ⟨(y 2 : Fin 7168) % 896 / 128, by omega⟩ ⟨(y 2 : Fin 7168) % 128, by omega⟩)

end Cert.KernelIdeal.Step

end
-- ==== Proof.StepMax.lean ====
/- What a grid point leaves in the scratch of the queries and of the running maxima. -/
module

public import proofs.«01_k».proof.Proof.Start
public import proofs.«01_k».proof.Proof.Gen.KernelIdeal.Value
public import Idealize.ShloMosaic.Lib.Pipeline.ValueKit.Tiles

@[expose] public section

set_option maxRecDepth 16384

noncomputable section

namespace Cert.KernelIdeal.Step

open Idealize.ShloMosaic Idealize.ShloMosaic.TcCoe Idealize.ShloMosaic.Tactic
open Cert.KernelIdeal.Gen Cert.KernelIdeal.Value

variable {F : FTy → Type} [FloatOps F] [Named F]

variable (m : (ℓ : Loc nD τ sig) → Buf (Elt F) ℓ)

/-- Eight planes of stacked queries. -/
def planesQ (P : Fin 8 → FVec F S1x16x256 .bf16) : Vec F S8x16x256 .bf16 :=
  fun i => P (i 0) fun a => match a with
    | ⟨0, _⟩ => (0 : Fin 1)
    | ⟨1, _⟩ => (i 1 : Fin 16)
    | ⟨2, _⟩ => (i 2 : Fin 256)

/-- A plane of them, read at an index inside it. -/
theorem planesQ_at (P : Fin 8 → FVec F S1x16x256 .bf16) (g : Fin 8) (x : S1x16x256.Idx) (y : S8x16x256.Idx)
    (h0 : (y 0 : ℕ) = g + (x 0 : ℕ)) (h1 : (y 1 : ℕ) = x 1) (h2 : (y 2 : ℕ) = x 2) : planesQ P y = P g x := by
  have hx : (x 0 : ℕ) < 1 := (x 0).isLt
  have hg : (y 0 : Fin 8) = g := Fin.ext (by omega)
  unfold planesQ
  rw [hg]
  congr 1
  funext a
  match a with
  | ⟨0, _⟩ => exact Fin.ext (by show 0 = (x 0 : ℕ); omega)
  | ⟨1, _⟩ => exact Fin.ext h1
  | ⟨2, _⟩ => exact Fin.ext h2

set_option maxHeartbeats 40000000 in
/-- The stacked queries kept from a row's first block -/
theorem firstQ (c : Dev nD) (t : Fin cfg0.N)
    (acc : Vec F S1x1x7168 .bf16 × Vec F S8x16x256 .bf16 × Vec F S8x8x128 .f32 × Vec F S8x8x128 .f32 × Vec F S8x8x128 .f32)
    (ha : t.val % 32 = 0) (hb : ¬t.val % 32 = 31) :
    (stAt0 m c t.val t.isLt acc).2.1 = planesQ fun g => stacked (heads (iblk m c 0 t) g) := by
  rw [stAt0_A m c t acc ha hb]
  dsimp only
  funext y
  frame_open
  rw [View.read_writes_junk_eq_canon]
  canon_tiles x h
  case' piece0 => rw [planesQ_at _ 7 x y h0 h1 h2]
  case' piece1 => rw [planesQ_at _ 6 x y h0 h1 h2]
  case' piece2 => rw [planesQ_at _ 5 x y h0 h1 h2]
  case' piece3 => rw [planesQ_at _ 4 x y h0 h1 h2]
  case' piece4 => rw [planesQ_at _ 3 x y h0 h1 h2]
  case' piece5 => rw [planesQ_at _ 2 x y h0 h1 h2]
  case' piece6 => rw [planesQ_at _ 1 x y h0 h1 h2]
  case' piece7 => rw [planesQ_at _ 0 x y (h0.trans (Nat.zero_add _).symm) h1 h2]
  all_goals refine congrFun ?_ x
  all_goals simp (disch := decide) only [↓readAt_unread, ↓beside_eq, ↓above_eq, ↓rows_eq]
  all_goals rfl

/-- and carried on. -/
theorem midQ (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : ¬t.val % 32 = 31) : (stAt0 m c t.val t.isLt acc).2.1 = acc.2.1 := by
  rw [stAt0_B m c t acc ha hb]
  dsimp only
  rfl

set_option maxHeartbeats 40000000 in
/-- The running maxima at the first token block of a row: started from the recent tokens and the new one, then taken over the first block. -/
theorem firstM (c : Dev nD) (t : Fin cfg0.N)
    (acc : Vec F S1x1x7168 .bf16 × Vec F S8x16x256 .bf16 × Vec F S8x8x128 .f32 × Vec F S8x8x128 .f32 × Vec F S8x8x128 .f32)
    (ha : t.val % 32 = 0) (hb : ¬t.val % 32 = 31) :
    (stAt0 m c t.val t.isLt acc).2.2.1 =
      planes fun g => planeM (stacked (heads (iblk m c 0 t) g)) (iblk m c 7 t) (iblk m c 9 t) (iblk m c 11 t) (wideM (startM (iblk m c 0 t) (iblk m c 1 t) (iblk m c 3 t) (iblk m c 5 t) g)) g := by
  rw [stAt0_A m c t acc ha hb]
  dsimp only
  funext y
  frame_open
  rw [View.read_writes_junk_eq_canon]
  refine (canon_planes _ _ _ _ _ _ _ _ _ y).trans ?_
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

set_option maxHeartbeats 40000000 in
/-- The running maxima at a block between. -/
theorem midM (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : ¬t.val % 32 = 31) :
    (stAt0 m c t.val t.isLt acc).2.2.1 =
      planes fun g => planeM (ldQ acc.2.1 g) (iblk m c 7 t) (iblk m c 9 t) (iblk m c 11 t) (ld3 acc.2.2.1 g) g := by
  rw [stAt0_B m c t acc ha hb]
  dsimp only
  funext y
  frame_open
  rw [View.read_writes_junk_eq_canon]
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

set_option maxHeartbeats 40000000 in
/-- The running maxima at the last block. -/
theorem lastM (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : t.val % 32 = 31) :
    (stAt0 m c t.val t.isLt acc).2.2.1 =
      planes fun g => planeM (ldQ acc.2.1 g) (iblk m c 7 t) (iblk m c 9 t) (iblk m c 11 t) (ld3 acc.2.2.1 g) g := by
  rw [stAt0_C m c t acc ha hb]
  dsimp only
  funext y
  frame_open
  rw [View.read_writes_junk_eq_canon]
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

end Cert.KernelIdeal.Step

end
-- ==== Proof.StepDen.lean ====
/- What a grid point leaves in the scratch of the denominators, after the first token block. -/
module

public import proofs.«01_k».proof.Proof.Start
public import proofs.«01_k».proof.Proof.Gen.KernelIdeal.Value
public import Idealize.ShloMosaic.Lib.Pipeline.ValueKit.Tiles

@[expose] public section

set_option maxRecDepth 16384

noncomputable section

namespace Cert.KernelIdeal.Step

open Idealize.ShloMosaic Idealize.ShloMosaic.TcCoe Idealize.ShloMosaic.Tactic
open Cert.KernelIdeal.Gen Cert.KernelIdeal.Value

variable {F : FTy → Type} [FloatOps F] [Named F]

variable (m : (ℓ : Loc nD τ sig) → Buf (Elt F) ℓ)

set_option maxHeartbeats 40000000 in
/-- The denominators at a block between. -/
theorem midL (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : ¬t.val % 32 = 31) :
    (stAt0 m c t.val t.isLt acc).2.2.2.1 =
      planes fun g => planeL (ldQ acc.2.1 g) (iblk m c 7 t) (iblk m c 9 t) (iblk m c 11 t) (ld3 acc.2.2.1 g) (ld3 acc.2.2.2.1 g) g := by
  rw [stAt0_B m c t acc ha hb]
  dsimp only
  funext y
  frame_open
  rw [View.read_writes_junk_eq_canon]
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

set_option maxHeartbeats 40000000 in
/-- The denominators at the last block. -/
theorem lastL (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : t.val % 32 = 31) :
    (stAt0 m c t.val t.isLt acc).2.2.2.1 =
      planes fun g => planeL (ldQ acc.2.1 g) (iblk m c 7 t) (iblk m c 9 t) (iblk m c 11 t) (ld3 acc.2.2.1 g) (ld3 acc.2.2.2.1 g) g := by
  rw [stAt0_C m c t acc ha hb]
  dsimp only
  funext y
  frame_open
  rw [View.read_writes_junk_eq_canon]
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

end Cert.KernelIdeal.Step

end
-- ==== Proof.StepDen0.lean ====
/- What a grid point leaves in the scratch of the denominators at the first token block. -/
module

public import proofs.«01_k».proof.Proof.Start
public import proofs.«01_k».proof.Proof.Gen.KernelIdeal.Value
public import Idealize.ShloMosaic.Lib.Pipeline.ValueKit.Tiles

@[expose] public section

set_option maxRecDepth 16384

noncomputable section

namespace Cert.KernelIdeal.Step

open Idealize.ShloMosaic Idealize.ShloMosaic.TcCoe Idealize.ShloMosaic.Tactic
open Cert.KernelIdeal.Gen Cert.KernelIdeal.Value

variable {F : FTy → Type} [FloatOps F] [Named F]

variable (m : (ℓ : Loc nD τ sig) → Buf (Elt F) ℓ)

set_option maxHeartbeats 40000000 in
/-- The denominators at the first token block of a row: started from the recent tokens and the new one, then taken over the first block. -/
theorem firstL (c : Dev nD) (t : Fin cfg0.N)
    (acc : Vec F S1x1x7168 .bf16 × Vec F S8x16x256 .bf16 × Vec F S8x8x128 .f32 × Vec F S8x8x128 .f32 × Vec F S8x8x128 .f32)
    (ha : t.val % 32 = 0) (hb : ¬t.val % 32 = 31) :
    (stAt0 m c t.val t.isLt acc).2.2.2.1 =
      planes fun g => planeL (stacked (heads (iblk m c 0 t) g)) (iblk m c 7 t) (iblk m c 9 t) (iblk m c 11 t) (wideM (startM (iblk m c 0 t) (iblk m c 1 t) (iblk m c 3 t) (iblk m c 5 t) g)) (startL (iblk m c 0 t) (iblk m c 1 t) (iblk m c 3 t) (iblk m c 5 t) g) g := by
  rw [stAt0_A m c t acc ha hb]
  dsimp only
  funext y
  frame_open
  rw [View.read_writes_junk_eq_canon]
  refine (canon_planes _ _ _ _ _ _ _ _ _ y).trans ?_
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

end Cert.KernelIdeal.Step

end
-- ==== Proof.StepNum.lean ====
/- What a grid point leaves in the scratch of the numerators, after the first token block. -/
module

public import proofs.«01_k».proof.Proof.Start
public import proofs.«01_k».proof.Proof.Gen.KernelIdeal.Value
public import Idealize.ShloMosaic.Lib.Pipeline.ValueKit.Tiles

@[expose] public section

set_option maxRecDepth 16384

noncomputable section

namespace Cert.KernelIdeal.Step

open Idealize.ShloMosaic Idealize.ShloMosaic.TcCoe Idealize.ShloMosaic.Tactic
open Cert.KernelIdeal.Gen Cert.KernelIdeal.Value

variable {F : FTy → Type} [FloatOps F] [Named F]

variable (m : (ℓ : Loc nD τ sig) → Buf (Elt F) ℓ)

set_option maxHeartbeats 40000000 in
/-- The numerators at a block between. -/
theorem midA (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : ¬t.val % 32 = 31) :
    (stAt0 m c t.val t.isLt acc).2.2.2.2 =
      planes fun g => planeA (ldQ acc.2.1 g) (iblk m c 7 t) (iblk m c 8 t) (iblk m c 9 t) (iblk m c 10 t) (iblk m c 11 t) (ld3 acc.2.2.1 g) (ld3 acc.2.2.2.2 g) g := by
  rw [stAt0_B m c t acc ha hb]
  dsimp only
  funext y
  frame_open
  rw [View.read_writes_junk_eq_canon]
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

set_option maxHeartbeats 40000000 in
/-- The numerators at the last block. -/
theorem lastA (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : t.val % 32 = 31) :
    (stAt0 m c t.val t.isLt acc).2.2.2.2 =
      planes fun g => planeA (ldQ acc.2.1 g) (iblk m c 7 t) (iblk m c 8 t) (iblk m c 9 t) (iblk m c 10 t) (iblk m c 11 t) (ld3 acc.2.2.1 g) (ld3 acc.2.2.2.2 g) g := by
  rw [stAt0_C m c t acc ha hb]
  dsimp only
  funext y
  frame_open
  rw [View.read_writes_junk_eq_canon]
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

end Cert.KernelIdeal.Step

end
-- ==== Proof.StepNum0.lean ====
/- What a grid point leaves in the scratch of the numerators at the first token block. -/
module

public import proofs.«01_k».proof.Proof.Start
public import proofs.«01_k».proof.Proof.Gen.KernelIdeal.Value
public import Idealize.ShloMosaic.Lib.Pipeline.ValueKit.Tiles

@[expose] public section

set_option maxRecDepth 16384

noncomputable section

namespace Cert.KernelIdeal.Step

open Idealize.ShloMosaic Idealize.ShloMosaic.TcCoe Idealize.ShloMosaic.Tactic
open Cert.KernelIdeal.Gen Cert.KernelIdeal.Value

variable {F : FTy → Type} [FloatOps F] [Named F]

variable (m : (ℓ : Loc nD τ sig) → Buf (Elt F) ℓ)

set_option maxHeartbeats 400000000 in
/-- The numerators at the first token block of a row: started from the recent tokens and the new one, then taken over the first block. -/
theorem firstA (c : Dev nD) (t : Fin cfg0.N)
    (acc : Vec F S1x1x7168 .bf16 × Vec F S8x16x256 .bf16 × Vec F S8x8x128 .f32 × Vec F S8x8x128 .f32 × Vec F S8x8x128 .f32)
    (ha : t.val % 32 = 0) (hb : ¬t.val % 32 = 31) :
    (stAt0 m c t.val t.isLt acc).2.2.2.2 =
      planes fun g => planeA (stacked (heads (iblk m c 0 t) g)) (iblk m c 7 t) (iblk m c 8 t) (iblk m c 9 t) (iblk m c 10 t) (iblk m c 11 t) (wideM (startM (iblk m c 0 t) (iblk m c 1 t) (iblk m c 3 t) (iblk m c 5 t) g)) (startA (iblk m c 0 t) (iblk m c 1 t) (iblk m c 2 t) (iblk m c 3 t) (iblk m c 4 t) (iblk m c 5 t) (iblk m c 6 t) g) g := by
  rw [stAt0_A m c t acc ha hb]
  dsimp only
  funext y
  frame_open
  rw [View.read_writes_junk_eq_canon]
  refine (canon_planes _ _ _ _ _ _ _ _ _ y).trans ?_
  canon_tiles x h
  case' piece0 => rw [planes_at _ 7 x y h0 h1 h2]
  case' piece1 => rw [planes_at _ 6 x y h0 h1 h2]
  case' piece2 => rw [planes_at _ 5 x y h0 h1 h2]
  case' piece3 => rw [planes_at _ 4 x y h0 h1 h2]
  case' piece4 => rw [planes_at _ 3 x y h0 h1 h2]
  case' piece5 => rw [planes_at _ 2 x y h0 h1 h2]
  case' piece6 => rw [planes_at _ 1 x y h0 h1 h2]
  case' piece7 => rw [planes_at _ 0 x y (h0.trans (Nat.zero_add _).symm) h1 h2]
  all_goals refine congrFun ?_ x
  all_goals simp (disch := decide) only [↓readAt_unread, ↓beside_eq, ↓above_eq, ↓beside256_eq, ↓rows_eq, ↓View.readCov_skip, View.readCov_cons_toLoadRect]
  all_goals rfl

end Cert.KernelIdeal.Step

end
-- ==== Proof.StepOut.lean ====
/- The row a grid point writes at the last token block. -/
module

public import proofs.«01_k».proof.Proof.Start
public import proofs.«01_k».proof.Proof.Gen.KernelIdeal.Value
public import Idealize.ShloMosaic.Lib.Pipeline.ValueKit.Tiles
public import Idealize.ShloMosaic.Lib.Pointwise

@[expose] public section

set_option maxRecDepth 16384

noncomputable section

namespace Cert.KernelIdeal.Step

open Idealize.ShloMosaic Idealize.ShloMosaic.TcCoe Idealize.ShloMosaic.Tactic
open Cert.KernelIdeal.Gen Cert.KernelIdeal.Value

variable {F : FTy → Type} [FloatOps F] [Named F]

variable (m : (ℓ : Loc nD τ sig) → Buf (Elt F) ℓ)

theorem row7 (h : ℕ) (hh : h < 7) : S8x128.Slices ![h, 0] S1x128 := row8 ⟨h, by omega⟩

/-- Head `h` of group `g`'s result, cut out of the quotient. -/
theorem out_piece (v3 : View sig .tc .vmem S8x8x128 .f32) (v2 : View sig .tc .vmem S8x8x128 .f32) (LA LL : List (View.Piece (Elt F) S8x8x128 .f32))
    (A L : Vec F S8x8x128 .f32) (hA : A = View.canon LA) (hL : L = View.canon LL) (g h : ℕ) (hg : g < 8) (hh : h < 7)
    (x : S1x1x128.Idx) (y : S1x1x7168.Idx) (hy : (y 2 : ℕ) = 896 * g + 128 * h + (x 2 : ℕ)) :
    shapeCast S1x1x128
      (extractStridedSlice S1x128 ![h, 0]
        (ratio (v3.readCov LA (Rect.unit (s := S8x8x128) ![g, 0, 0] S1x8x128.size (inb3 ⟨g, hg⟩)).toLoadRect)
          (v2.readCov LL (Rect.unit (s := S8x8x128) ![g, 0, 0] S1x8x128.size (inb3 ⟨g, hg⟩)).toLoadRect)) (row7 h hh)) shapeCasts_S1x128_S1x1x128 x =
      outRow A L y := by
  rw [View.readCov_eq_canon', View.readCov_eq_canon', ← hA, ← hL]
  have hx : (x 2 : ℕ) < 128 := (x 2).isLt
  have hG : (y 2 : ℕ) / 896 = g := by omega
  have hH : (y 2 : ℕ) % 896 / 128 = h := by omega
  have hX : (y 2 : ℕ) % 128 = (x 2 : ℕ) := by omega
  have e1 : (⟨(y 2 : Fin 7168) / 896, by have h : ((y 2 : Fin 7168) : ℕ) < 7168 := (y 2 : Fin 7168).isLt; exact Nat.div_lt_of_lt_mul h⟩ : Fin 8) = ⟨g, hg⟩ := Fin.ext hG
  unfold outRow
  have e2 : (⟨(y 2 : Fin 7168) % 896 / 128, by omega⟩ : Fin 8) = ⟨h, by omega⟩ := Fin.ext hH
  have e3 : (⟨(y 2 : Fin 7168) % 128, by omega⟩ : Fin 128) = x 2 := Fin.ext hX
  rw [e1, e2, e3]
  pointwise [ratio, ld3]

set_option maxHeartbeats 40000000 in
/-- The row written at the last block: numerators over denominators. -/
theorem lastO (c : Dev nD) (t : Fin cfg0.N)
    (acc : Vec F S1x1x7168 .bf16 × Vec F S8x16x256 .bf16 × Vec F S8x8x128 .f32 × Vec F S8x8x128 .f32 × Vec F S8x8x128 .f32)
    (ha : ¬t.val % 32 = 0) (hb : t.val % 32 = 31) :
    (stAt0 m c t.val t.isLt acc).1 = outRow (stAt0 m c t.val t.isLt acc).2.2.2.2 (stAt0 m c t.val t.isLt acc).2.2.2.1 := by
  have e := stAt0_C m c t acc ha hb
  have hA := congrArg (fun s => s.2.2.2.2) e
  have hL := congrArg (fun s => s.2.2.2.1) e
  have hO := congrArg (fun s => s.1) e
  clear e
  dsimp only at hA hL hO
  rw [hO]
  clear hO
  generalize (stAt0 m c t.val t.isLt acc).2.2.2.2 = A at hA ⊢
  generalize (stAt0 m c t.val t.isLt acc).2.2.2.1 = L at hL ⊢
  frame_open at hA
  frame_open at hL
  rw [View.read_writes_junk_eq_canon] at hA hL
  funext y
  frame_open
  rw [View.read_writes_junk_eq_canon]
  canon_tiles x h
  all_goals exact out_piece _ _ _ _ A L hA hL _ _ (by decide) (by decide) x y (by omega)

end Cert.KernelIdeal.Step

end
-- ==== Proof.Online.lean ====
/- The softmax sums computed block by block, over the extended reals: what was summed relative to an earlier maximum, rescaled to a later one; and
   base-two scores against natural ones. -/
module

public import Idealize.ShloMosaic.PureOps.Ideal
public import Mathlib.Analysis.SpecialFunctions.Pow.Real
public import Mathlib.Data.EReal.Inv

@[expose] public section

noncomputable section

namespace Cert.Online

open Idealize.ShloMosaic Finset

/-- `1 / log 2`, by which a natural score becomes a base-two score. -/
def lg : ℝ := (Real.log 2)⁻¹

theorem lg_pos : 0 < lg := inv_pos.mpr (Real.log_pos one_lt_two)

theorem coe_mul_lg (x : EReal) : x = ⊥ ∨ x = ⊤ ∨ ∃ r : ℝ, x = r := by
  induction x using EReal.rec with
  | bot => exact .inl rfl
  | top => exact .inr (.inl rfl)
  | coe r => exact .inr (.inr ⟨r, rfl⟩)

theorem exp2_lg (x : EReal) : Ideal.exp2 (x * (lg : EReal)) = Ideal.exp x := by
  rcases coe_mul_lg x with rfl | rfl | ⟨r, rfl⟩
  · rw [EReal.bot_mul_coe_of_pos lg_pos]; rfl
  · rw [EReal.top_mul_coe_of_pos lg_pos]; rfl
  · rw [← EReal.coe_mul, Ideal.exp2_coe, Ideal.exp_coe]
    congr 1
    show (2 : ℝ) ^ (r * lg) = Real.exp r
    rw [Real.rpow_def_of_pos two_pos, lg]
    congr 1
    have := (Real.log_pos one_lt_two).ne'
    field_simp

theorem sub_lg (x m : EReal) : (x - m) * (lg : EReal) = x * (lg : EReal) - m * (lg : EReal) := by
  rcases coe_mul_lg x with rfl | rfl | ⟨r, rfl⟩ <;> rcases coe_mul_lg m with rfl | rfl | ⟨s, rfl⟩ <;>
    simp only [EReal.bot_mul_coe_of_pos lg_pos, EReal.top_mul_coe_of_pos lg_pos, ← EReal.coe_mul, ← EReal.coe_sub, sub_mul] <;>
    simp only [sub_eq_add_neg, EReal.neg_bot, EReal.neg_top, EReal.bot_add, EReal.add_bot, EReal.top_add_top, ← EReal.coe_neg, ← EReal.coe_mul,
      EReal.top_add_coe, EReal.coe_add_top, EReal.bot_mul_coe_of_pos lg_pos, EReal.top_mul_coe_of_pos lg_pos, ← EReal.coe_add, neg_mul]

theorem mul_lg_mono : Monotone fun x : EReal => x * (lg : EReal) := fun _ _ h =>
  mul_le_mul_of_nonneg_right h (EReal.coe_nonneg.mpr lg_pos.le)

theorem max_lg (x y : EReal) : max (x * (lg : EReal)) (y * (lg : EReal)) = max x y * (lg : EReal) := (mul_lg_mono.map_max).symm

theorem sup_lg {J : Type*} (S : Finset J) (s : J → EReal) : (S.sup fun j => s j * (lg : EReal)) = S.sup s * (lg : EReal) :=
  (Finset.comp_sup_eq_sup_comp (fun x : EReal => x * (lg : EReal)) (fun x y => mul_lg_mono.map_max) (EReal.bot_mul_coe_of_pos lg_pos)).symm

theorem exp2_mul {s M M' : EReal} (h : s ≤ M) (h' : M ≤ M') : Ideal.exp2 (s - M) * Ideal.exp2 (M - M') = Ideal.exp2 (s - M') := by
  rcases coe_mul_lg M with rfl | rfl | ⟨b, rfl⟩
  · obtain rfl := le_bot_iff.mp h
    rcases coe_mul_lg M' with rfl | rfl | ⟨c, rfl⟩ <;> simp [sub_eq_add_neg]
  · obtain rfl := top_le_iff.mp h'
    simp [sub_eq_add_neg]
  · rcases coe_mul_lg s with rfl | rfl | ⟨a, rfl⟩
    · simp [sub_eq_add_neg]
    · exact absurd h (by simp)
    · rcases coe_mul_lg M' with rfl | rfl | ⟨c, rfl⟩
      · exact absurd h' (by simp)
      · simp [sub_eq_add_neg]
      · rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (b - c) = (2 : ℝ) ^ (a - c)
        rw [← Real.rpow_add two_pos]
        congr 1
        ring

theorem exp2_nonneg (x : EReal) : 0 ≤ Ideal.exp2 x := by
  rcases coe_mul_lg x with rfl | rfl | ⟨r, rfl⟩
  · exact le_refl _
  · exact le_top
  · exact EReal.coe_nonneg.mpr (Real.rpow_nonneg two_pos.le _)

theorem exp2_ne_top {M M' : EReal} (h : M ≤ M') : Ideal.exp2 (M - M') ≠ ⊤ := by
  rcases coe_mul_lg M with rfl | rfl | ⟨b, rfl⟩
  · simp [sub_eq_add_neg]
  · obtain rfl := top_le_iff.mp h
    simp [sub_eq_add_neg]
  · rcases coe_mul_lg M' with rfl | rfl | ⟨c, rfl⟩
    · exact absurd h (by simp)
    · simp [sub_eq_add_neg]
    · rw [← EReal.coe_sub, Ideal.exp2_coe]
      exact EReal.coe_ne_top _

theorem add_mul_fac {a x y : EReal} (h : 0 ≤ a) (h' : a ≠ ⊤) : (x + y) * a = x * a + y * a := by
  rw [mul_comm, EReal.left_distrib_of_nonneg_of_ne_top h h', mul_comm a x, mul_comm a y]

theorem sum_mul_fac {J : Type*} (S : Finset J) (f : J → EReal) {a : EReal} (h : 0 ≤ a) (h' : a ≠ ⊤) : (∑ j ∈ S, f j) * a = ∑ j ∈ S, f j * a := by
  classical
  induction S using Finset.induction_on with
  | empty => simp
  | insert j S hj ih => rw [Finset.sum_insert hj, Finset.sum_insert hj, add_mul_fac h h', ih]

-- Scores of a row: `r` of the recent tokens, `n` of the new one, `s` of the cached ones; `wr`, `wn`, `w` their values.
variable {T : ℕ} (r : Fin T → EReal) (n : EReal) (s : ℕ → EReal) (wr : Fin T → EReal) (wn : EReal) (w : ℕ → EReal)

/-- The maximum, -/
def mx (N : ℕ) : EReal := max (max (univ.sup r) n) ((range N).sup s)

/-- the denominator, -/
def dn (N : ℕ) : EReal := (∑ t, Ideal.exp2 (r t - mx r n s N) + Ideal.exp2 (n - mx r n s N)) + ∑ j ∈ range N, Ideal.exp2 (s j - mx r n s N)

/-- and the numerator over the first `N` cached tokens. -/
def nm (N : ℕ) : EReal :=
  (∑ t, Ideal.exp2 (r t - mx r n s N) * wr t + Ideal.exp2 (n - mx r n s N) * wn) + ∑ j ∈ range N, Ideal.exp2 (s j - mx r n s N) * w j

theorem le_mx_r (N : ℕ) (t : Fin T) : r t ≤ mx r n s N := (Finset.le_sup (mem_univ t)).trans ((le_max_left _ _).trans (le_max_left _ _))
theorem le_mx_n (N : ℕ) : n ≤ mx r n s N := (le_max_right _ _).trans (le_max_left _ _)
theorem le_mx_s {N j : ℕ} (h : j ∈ range N) : s j ≤ mx r n s N := (Finset.le_sup h).trans (le_max_right _ _)

theorem mx_zero : mx r n s 0 = max (univ.sup r) n := by simp [mx]

theorem dn_zero : dn r n s 0 = ∑ t, Ideal.exp2 (r t - max (univ.sup r) n) + Ideal.exp2 (n - max (univ.sup r) n) := by
  rw [dn, mx_zero, range_zero, sum_empty, add_zero]

theorem nm_zero : nm r n s wr wn w 0 = ∑ t, Ideal.exp2 (r t - max (univ.sup r) n) * wr t + Ideal.exp2 (n - max (univ.sup r) n) * wn := by
  rw [nm, mx_zero, range_zero, sum_empty, add_zero]

theorem sup_range_add (N K : ℕ) : (range (N + K)).sup s = max ((range N).sup s) ((univ : Finset (Fin K)).sup fun j => s (N + j)) := by
  refine le_antisymm (Finset.sup_le fun j hj => ?_) (max_le (Finset.sup_mono (range_mono (Nat.le_add_right N K))) (Finset.sup_le fun j _ => ?_))
  · by_cases h : j < N
    · exact (Finset.le_sup (mem_range.mpr h)).trans (le_max_left _ _)
    · have hj := mem_range.mp hj
      have := Finset.le_sup (f := fun j : Fin K => s (N + j)) (mem_univ ⟨j - N, by omega⟩)
      have e : N + (j - N) = j := by omega
      simp only [e] at this
      exact this.trans (le_max_right _ _)
  · exact Finset.le_sup (f := s) (mem_range.mpr (by omega))

theorem mx_add (N K : ℕ) : mx r n s (N + K) = max (mx r n s N) ((univ : Finset (Fin K)).sup fun j => s (N + j)) := by
  rw [mx, mx, sup_range_add, max_assoc, max_assoc, max_assoc]

theorem sum_range_add' (f : ℕ → EReal) (N K : ℕ) : ∑ j ∈ range (N + K), f j = ∑ j ∈ range N, f j + ∑ j : Fin K, f (N + j) := by
  rw [Finset.sum_range_add f N K, Finset.sum_range fun x => f (N + x)]

theorem dn_add (N K : ℕ) :
    dn r n s (N + K) = dn r n s N * Ideal.exp2 (mx r n s N - mx r n s (N + K)) + ∑ j : Fin K, Ideal.exp2 (s (N + j) - mx r n s (N + K)) := by
  have hM : mx r n s N ≤ mx r n s (N + K) := by rw [mx_add]; exact le_max_left _ _
  have h0 := exp2_nonneg (mx r n s N - mx r n s (N + K))
  have h1 := exp2_ne_top hM
  unfold dn
  rw [sum_range_add', add_mul_fac h0 h1, add_mul_fac h0 h1, sum_mul_fac _ _ h0 h1, sum_mul_fac _ _ h0 h1, exp2_mul (le_mx_n r n s N) hM, ← add_assoc,
    Finset.sum_congr rfl fun t _ => exp2_mul (le_mx_r r n s N t) hM, Finset.sum_congr rfl fun j hj => exp2_mul (le_mx_s r n s hj) hM]

theorem nm_add (N K : ℕ) :
    nm r n s wr wn w (N + K) = nm r n s wr wn w N * Ideal.exp2 (mx r n s N - mx r n s (N + K)) +
      ∑ j : Fin K, Ideal.exp2 (s (N + j) - mx r n s (N + K)) * w (N + j) := by
  have hM : mx r n s N ≤ mx r n s (N + K) := by rw [mx_add]; exact le_max_left _ _
  have h0 := exp2_nonneg (mx r n s N - mx r n s (N + K))
  have h1 := exp2_ne_top hM
  have e : ∀ x y : EReal, x ≤ mx r n s N → Ideal.exp2 (x - mx r n s N) * y * Ideal.exp2 (mx r n s N - mx r n s (N + K)) = Ideal.exp2 (x - mx r n s (N + K)) * y :=
    fun x y h => by rw [mul_right_comm, exp2_mul h hM]
  unfold nm
  rw [sum_range_add' (fun j => Ideal.exp2 (s j - mx r n s (N + K)) * w j), add_mul_fac h0 h1, add_mul_fac h0 h1, sum_mul_fac _ _ h0 h1, sum_mul_fac _ _ h0 h1,
    e _ _ (le_mx_n r n s N), ← add_assoc, Finset.sum_congr rfl fun t _ => e _ (wr t) (le_mx_r r n s N t),
    Finset.sum_congr rfl fun j hj => e _ (w j) (le_mx_s r n s hj)]

end Cert.Online

end
-- ==== Proof.BlockRead.lean ====
/- One block of one group of heads over the extended reals: its masked scores, and the maximum, denominator and numerator after it,
   as a maximum and sums over the block's 2048 tokens. -/
module

public import proofs.«01_k».proof.Proof.Start
public import proofs.«01_k».proof.Proof.Online
public import Idealize.ShloMosaic.Lib.Pointwise

@[expose] public section

set_option maxRecDepth 16384

noncomputable section

namespace Cert.KernelIdeal.Step

open Idealize.ShloMosaic Idealize.ShloMosaic.TcCoe Idealize.ShloMosaic.Tactic
open Cert.KernelIdeal.Gen Finset

/-- The factor of the scores. -/
def sc : EReal := (((Real.sqrt 128)⁻¹ * (Real.log 2)⁻¹ : ℝ) : EReal)

theorem scale_eq : Named.named (F := Ideal) (φ := .f32) κ "score_scale" 0x3E0293EE#32 = sc := IdealRules.named_const.ideal_named_scalar _ _ _ _ rfl

theorem mask_eq : Named.named (F := Ideal) (φ := .f32) κ "mask" 0xF149F2CA#32 = (⊥ : EReal) := IdealRules.named_const.ideal_named_scalar _ _ _ _ rfl

theorem inf_eq : Ideal.ofBits .f32 0xFF800000#32 = (⊥ : EReal) := by simp [Ideal.ofBits, Ideal.ieee]

theorem fold_sup {J : Type*} (S : Finset J) (f : J → EReal) : S.fold max ⊥ f = S.sup f := rfl

/-- The value of an eight-bit code. -/
def cv (b : BitVec 8) : EReal := FloatOps.sitofp (F := Ideal) .bf16 b

/-- The bit test of the body. -/
theorem bit_body (w : BitVec 32) (n : Fin 4) (h : Fin 8) :
    IntOp.cmpi .ne (IntOp.andi w (IntOp.shli .vector 1#32 (IntOp.addi (BitVec.ofNat 32 h.val) (BitVec.ofNat 32 (8 * n.val))))) 0#32 =
      BitVec.ofBool (w.getLsbD (8 * n.val + h.val)) := by
  have e : IntOp.shli .vector 1#32 (IntOp.addi (BitVec.ofNat 32 h.val) (BitVec.ofNat 32 (8 * n.val))) = BitVec.twoPow 32 (8 * n.val + h.val) := by
    revert n h; decide
  rw [e]
  show BitVec.ofBool (w &&& BitVec.twoPow 32 (8 * n.val + h.val) != 0#32) = _
  congr 1
  rw [BitVec.and_twoPow]
  have hk : BitVec.twoPow 32 (8 * n.val + h.val) ≠ 0#32 := by revert n h; decide
  cases w.getLsbD (8 * n.val + h.val) <;> simp [hk]

theorem dots_at (q : FVec Ideal S8x128 .bf16) (x : Vec Ideal S1x8x2048x128 .i8) (g : Fin 8) (c : Fin 4) (p : Fin 2) (h : Fin 8) (d : Fin 256) :
    dots (stacked q) x g c (ix2 ⟨8 * p.val + h.val, by omega⟩ d) =
      ∑ e, q (ix2 h e) * cv (x (ix4 0 g ⟨512 * c.val + 256 * p.val + d.val, by omega⟩ e)) := by
  pointwise [dots, pair, beside256, ldK, stacked, above, beside]
  have hp : p.val = 0 ∨ p.val = 1 := by omega
  rcases hp with hp | hp
  · have e1 : 8 * p.val + h.val < 8 := by omega
    simp only [e1, ↓reduceDIte, zero_mul, Finset.sum_const_zero, add_zero]
    refine Finset.sum_congr rfl fun e _ => ?_
    unfold cv
    congr 4
    · omega
    · exact Fin.ext (by dsimp only; omega)
  · have e1 : ¬ 8 * p.val + h.val < 8 := by omega
    simp only [e1, ↓reduceDIte, zero_mul, Finset.sum_const_zero, zero_add]
    refine Finset.sum_congr rfl fun e _ => ?_
    unfold cv
    congr 4
    · omega
    · exact Fin.ext (by dsimp only; omega)

/-- The masked score of token `j` of the block for row `h` of the group. -/
def bScore (q : FVec Ideal S8x128 .bf16) (x7 : Vec Ideal S1x8x2048x128 .i8) (x9 : Vec Ideal S1x8x2048 .f32) (x11 : Vec Ideal S1x8x512 .i32)
    (g h : Fin 8) (j : Fin 2048) : EReal :=
  if (x11 (ix3 0 g ⟨128 * (j.val / 512) + j.val % 128, by omega⟩)).getLsbD (8 * (j.val / 128 % 4) + h.val) then
    (∑ e, q (ix2 h e) * cv (x7 (ix4 0 g j e))) * (x9 (ix3 0 g j) * sc)
  else ⊥

theorem tile_at (q : FVec Ideal S8x128 .bf16) (x7 : Vec Ideal S1x8x2048x128 .i8) (x9 : Vec Ideal S1x8x2048 .f32) (x11 : Vec Ideal S1x8x512 .i32)
    (g : Fin 8) (k : Fin 16) (h : Fin 8) (l : Fin 128) :
    tile (stacked q) x7 x9 x11 g k (ix2 h l) = bScore q x7 x9 x11 g h ⟨128 * k.val + l.val, by omega⟩ := by
  pointwise [tile, ldS, ldW]
  have e := dots_at q x7 g ⟨k.val / 4, by omega⟩ ⟨k.val % 4 / 2, by omega⟩ h ⟨128 * (k.val % 2) + l.val, by omega⟩
  dsimp only at e
  rw [e, scale_eq, mask_eq]
  have b := bit_body (x11 (ix3 0 g ⟨128 * (k.val / 4) + l.val, by omega⟩)) ⟨k.val % 4, by omega⟩ h
  dsimp only at b
  rw [b]
  unfold bScore
  have e1 : (⟨512 * (k.val / 4) + 256 * (k.val % 4 / 2) + (128 * (k.val % 2) + l.val), by omega⟩ : Fin 2048) = ⟨128 * k.val + l.val, by omega⟩ :=
    Fin.ext (by dsimp only; omega)
  have e2 : (⟨128 * ((128 * k.val + l.val) / 512) + (128 * k.val + l.val) % 128, by omega⟩ : Fin 512) = ⟨128 * (k.val / 4) + l.val, by omega⟩ :=
    Fin.ext (by dsimp only; omega)
  have e3 : (128 * k.val + l.val) / 128 % 4 = k.val % 4 := by omega
  simp only [e1, e2, e3]
  cases (x11 (ix3 0 g ⟨128 * (k.val / 4) + l.val, by omega⟩)).getLsbD (8 * (k.val % 4) + h.val) <;> rfl

theorem maxes_at (T : Fin 16 → FVec Ideal S8x128 .f32) (h : Fin 8) (l : Fin 128) :
    ∀ n, maxes T n (ix2 h l) = (range n).sup fun k => T (cyc k) (ix2 h l)
  | 0 => by
    pointwise [maxes]
    rw [mask_eq, range_zero, sup_empty]
  | n + 1 => by
    rw [range_add_one, sup_insert, ← maxes_at T h l n]
    pointwise [maxes]
    exact max_comm _ _

theorem sums_at (P : Fin 16 → FVec Ideal S8x128 .f32) (h : Fin 8) (l : Fin 128) :
    ∀ n, sums P n (ix2 h l) = ∑ k ∈ range n, P (cyc k) (ix2 h l)
  | 0 => by
    pointwise [sums]
    rw [range_zero, sum_empty]
  | n + 1 => by
    rw [sum_range_succ, ← sums_at P h l n]
    pointwise [sums]

/-- A maximum over tiles and lanes is one over tokens. -/
theorem sup_tiles (f : Fin 2048 → EReal) :
    (univ.sup fun l : Fin 128 => (range 16).sup fun k => f ⟨128 * (cyc k).val + l.val, by omega⟩) = univ.sup f := by
  refine le_antisymm (Finset.sup_le fun l _ => Finset.sup_le fun k _ => Finset.le_sup (f := f) (mem_univ _)) (Finset.sup_le fun j _ => ?_)
  have h1 := Finset.le_sup (f := fun k => f ⟨128 * (cyc k).val + (j.val % 128), by omega⟩) (mem_range.mpr (show j.val / 128 < 16 by omega))
  have h2 := Finset.le_sup (f := fun l : Fin 128 => (range 16).sup fun k => f ⟨128 * (cyc k).val + l.val, by omega⟩)
    (mem_univ (⟨j.val % 128, by omega⟩ : Fin 128))
  have e : (⟨128 * (cyc (j.val / 128)).val + j.val % 128, by omega⟩ : Fin 2048) = j := Fin.ext (by simp only [cyc]; omega)
  simp only [e] at h1
  exact h1.trans h2

/-- A sum over tiles and lanes is one over tokens. -/
theorem sum_tiles (f : Fin 2048 → EReal) : (∑ k ∈ range 16, ∑ l : Fin 128, f ⟨128 * (cyc k).val + l.val, by omega⟩) = ∑ j, f j := by
  refine Eq.trans ?_ (Fin.sum_univ_tiles 16 128 rfl f).symm
  rw [Finset.sum_range fun k => ∑ l : Fin 128, f ⟨128 * (cyc k).val + l.val, by omega⟩]
  refine Finset.sum_congr rfl fun k _ => Finset.sum_congr rfl fun l _ => congrArg f (Fin.ext ?_)
  have : (cyc k.val).val = k.val := Nat.mod_eq_of_lt k.isLt
  dsimp only
  rw [this]
  omega

theorem newM_at (T : Fin 16 → FVec Ideal S8x128 .f32) (m : Vec Ideal S1x8x128 .f32) (h : Fin 8) (l : Fin 128) (f : Fin 2048 → EReal)
    (hf : ∀ k l, T k (ix2 h l) = f ⟨128 * k.val + l.val, by omega⟩) : newM T m (ix2 h l) = max (m (ix3 0 h l)) (univ.sup f) := by
  pointwise [newM]
  rw [inf_eq, fold_sup, ← sup_tiles f]
  simp only [maxes_at, hf]

theorem stL_at (P : Fin 16 → FVec Ideal S8x128 .f32) (al : FVec Ideal S8x128 .f32) (a : Vec Ideal S1x8x128 .f32) (h : Fin 8) (l : Fin 128)
    (f : Fin 2048 → EReal) (hf : ∀ k l, P k (ix2 h l) = f ⟨128 * k.val + l.val, by omega⟩) :
    stL P al a (ix3 0 h l) = a (ix3 0 h l) * al (ix2 h l) + ∑ j, f j := by
  pointwise [stL]
  simp only [sums_at, hf]
  rw [Finset.sum_comm, sum_tiles]

/-- What tile `k` adds to the numerator. -/
def vterm (A : Fin 16 → FVec Ideal S8x128 .f32) (x8 : Vec Ideal S1x8x2048x128 .i8) (g h : Fin 8) (d : Fin 128) (k : ℕ) : EReal :=
  ∑ x : Fin 128, A (cyc k) (ix2 h x) * cv (x8 (ix4 0 g ⟨128 * (cyc k).val + x.val, by omega⟩ d))

theorem prods_at (A : Fin 16 → FVec Ideal S8x128 .f32) (x8 : Vec Ideal S1x8x2048x128 .i8) (g : Fin 8) (p : Fin 2) (h : Fin 8) (d : Fin 128) :
    ∀ n, prods A x8 g n (ix2 ⟨8 * p.val + h.val, by omega⟩ ⟨128 * p.val + d.val, by omega⟩) =
      ∑ i ∈ range n, (vterm A x8 g h d (4 * i + 2 * p.val) + vterm A x8 g h d (4 * i + 2 * p.val + 1))
  | 0 => by
    pointwise [prods]
    rw [range_zero, sum_empty]
  | n + 1 => by
    rw [sum_range_succ, ← prods_at A x8 g p h d n]
    pointwise [prods, above, beside, pair, beside256, ldK]
    have hp : p.val = 0 ∨ p.val = 1 := by omega
    unfold vterm cv
    rcases hp with hp | hp
    · have e1 : 8 * p.val + h.val < 8 := by omega
      have e2 : 128 * p.val + d.val < 128 := by omega
      simp only [e1, e2, ↓reduceDIte]
      congr 2 <;> refine Finset.sum_congr rfl fun e _ => ?_
      all_goals congr 4
      all_goals first | omega | exact Fin.ext (by simp only [cyc]; omega)
    · have e1 : ¬ 8 * p.val + h.val < 8 := by omega
      have e2 : ¬ 128 * p.val + d.val < 128 := by omega
      simp only [e1, e2, ↓reduceDIte]
      rw [show 4 * n + 3 = 4 * n + 2 * p.val + 1 by omega, show 4 * n + 2 = 4 * n + 2 * p.val by omega]
      congr 2 <;> refine Finset.sum_congr rfl fun e _ => ?_
      all_goals congr 4
      all_goals first | omega | exact Fin.ext (by simp only [cyc]; omega)

theorem stA_at (A : Fin 16 → FVec Ideal S8x128 .f32) (x8 : Vec Ideal S1x8x2048x128 .i8) (g : Fin 8) (al : FVec Ideal S8x128 .f32)
    (a : Vec Ideal S1x8x128 .f32) (h : Fin 8) (d : Fin 128) (f : Fin 2048 → EReal) (hf : ∀ k l, A k (ix2 h l) = f ⟨128 * k.val + l.val, by omega⟩) :
    stA (prods A x8 g 4) al a (ix3 0 h d) = a (ix3 0 h d) * al (ix2 h d) + ∑ j, f j * cv (x8 (ix4 0 g j d)) := by
  pointwise [stA]
  have e0 := prods_at A x8 g 0 h d 4
  have e1 := prods_at A x8 g 1 h d 4
  simp only [Fin.val_zero, Fin.val_one, mul_zero, mul_one, zero_add, add_zero] at e0 e1
  rw [e0, e1, add_assoc, ← sum_tiles fun j => f j * cv (x8 (ix4 0 g j d))]
  congr 1
  have e : ∀ k, (∑ l : Fin 128, f ⟨128 * (cyc k).val + l.val, by omega⟩ * cv (x8 (ix4 0 g ⟨128 * (cyc k).val + l.val, by omega⟩ d))) = vterm A x8 g h d k :=
    fun k => by simp only [vterm, hf]
  simp only [e]
  simp only [sum_range_succ, range_zero, sum_empty, zero_add]
  norm_num
  abel

theorem weight_at (T : Fin 16 → FVec Ideal S8x128 .f32) (M : FVec Ideal S8x128 .f32) (k : Fin 16) (h : Fin 8) (l : Fin 128) :
    weight T M k (ix2 h l) = Ideal.exp2 (T k (ix2 h l) - M (ix2 h l)) := by
  pointwise [weight]
  rfl

theorem shrink_at (m : Vec Ideal S1x8x128 .f32) (M : FVec Ideal S8x128 .f32) (h : Fin 8) (l : Fin 128) :
    shrink m M (ix2 h l) = Ideal.exp2 (m (ix3 0 h l) - M (ix2 h l)) := by
  pointwise [shrink]
  rfl

theorem part_at (P : Fin 16 → FVec Ideal S8x128 .f32) (x10 : Vec Ideal S1x8x2048 .f32) (g : Fin 8) (k : Fin 16) (h : Fin 8) (l : Fin 128) :
    part P x10 g k (ix2 h l) = P k (ix2 h l) * x10 (ix3 0 g ⟨128 * k.val + l.val, by omega⟩) := by
  pointwise [part, ldS]

variable (q : FVec Ideal S8x128 .bf16) (x7 x8 : Vec Ideal S1x8x2048x128 .i8) (x9 x10 : Vec Ideal S1x8x2048 .f32) (x11 : Vec Ideal S1x8x512 .i32)
  (m l a : Vec Ideal S1x8x128 .f32) (g h : Fin 8) (μ : EReal) (hm : ∀ x, m (ix3 0 h x) = μ)

include hm

/-- The maximum after a block, -/
theorem planeM_at (x : Fin 128) : planeM (stacked q) x7 x9 x11 m g (ix3 0 h x) = max μ (univ.sup (bScore q x7 x9 x11 g h)) := by
  pointwise [planeM, stM]
  rw [newM_at _ m h x _ (fun k l => tile_at q x7 x9 x11 g k h l), hm]

/-- its denominator, -/
theorem planeL_at (x : Fin 128) :
    planeL (stacked q) x7 x9 x11 m l g (ix3 0 h x) =
      l (ix3 0 h x) * Ideal.exp2 (μ - max μ (univ.sup (bScore q x7 x9 x11 g h))) +
        ∑ j, Ideal.exp2 (bScore q x7 x9 x11 g h j - max μ (univ.sup (bScore q x7 x9 x11 g h))) := by
  have hM : ∀ x, newM (tile (stacked q) x7 x9 x11 g) m (ix2 h x) = max μ (univ.sup (bScore q x7 x9 x11 g h)) := fun x => by
    rw [newM_at _ m h x _ (fun k l => tile_at q x7 x9 x11 g k h l), hm]
  unfold planeL
  rw [stL_at _ _ l h x (fun j => Ideal.exp2 (bScore q x7 x9 x11 g h j - max μ (univ.sup (bScore q x7 x9 x11 g h)))) fun k l => by
    rw [weight_at, hM, tile_at], shrink_at, hM, hm]

/-- and its numerator. -/
theorem planeA_at (d : Fin 128) :
    planeA (stacked q) x7 x8 x9 x10 x11 m a g (ix3 0 h d) =
      a (ix3 0 h d) * Ideal.exp2 (μ - max μ (univ.sup (bScore q x7 x9 x11 g h))) +
        ∑ j, Ideal.exp2 (bScore q x7 x9 x11 g h j - max μ (univ.sup (bScore q x7 x9 x11 g h))) * (x10 (ix3 0 g j) * cv (x8 (ix4 0 g j d))) := by
  have hM : ∀ x, newM (tile (stacked q) x7 x9 x11 g) m (ix2 h x) = max μ (univ.sup (bScore q x7 x9 x11 g h)) := fun x => by
    rw [newM_at _ m h x _ (fun k l => tile_at q x7 x9 x11 g k h l), hm]
  unfold planeA
  rw [stA_at _ x8 g _ a h d (fun j => Ideal.exp2 (bScore q x7 x9 x11 g h j - max μ (univ.sup (bScore q x7 x9 x11 g h))) * x10 (ix3 0 g j)) fun k l => by
    rw [part_at, weight_at, hM, tile_at], shrink_at, hM, hm]
  simp only [mul_assoc]

end Cert.KernelIdeal.Step

end
-- ==== Proof.StartRead.lean ====
/- What a row starts from, over the extended reals: the maximum, denominator and numerator over its recent tokens and its new one; and the row
   written at the end. -/
module

public import proofs.«01_k».proof.Proof.BlockRead

@[expose] public section

set_option maxRecDepth 16384

noncomputable section

namespace Cert.KernelIdeal.Step

open Idealize.ShloMosaic Idealize.ShloMosaic.TcCoe Idealize.ShloMosaic.Tactic
open Cert.KernelIdeal.Gen Finset

theorem heads_at (x : Vec Ideal S1x1x7168 .bf16) (g : Fin 8) (h : Fin 7) (d : Fin 128) :
    heads x g (ix2 ⟨h.val, by omega⟩ d) = x (ix3 0 0 ⟨896 * g.val + 128 * h.val + d.val, by omega⟩) := by
  fin_cases h <;> pointwise [heads, rows, ldX]

theorem plane_at (x : Vec Ideal S1x8x256x128 .bf16) (g : Fin 8) (t : Fin 256) (d : Fin 128) :
    shapeCast S256x128 (View.ld x (Rect.unit (s := S1x8x256x128) ![0, g.val, 0, 0] S1x1x256x128.size (inbR g))) shapeCasts_S1x1x256x128_S256x128
      (ix2 t d) = x (ix4 0 g t d) := by
  generalize hy : View.ld x (Rect.unit (s := S1x8x256x128) ![0, g.val, 0, 0] S1x1x256x128.size (inbR g)) = y
  rw [shapeCast_apply y shapeCasts_S1x1x256x128_S256x128 (ix2 t d) (ix4 0 0 t d)
    (by rw [Shape.rowMajor_val_two, Shape.rowMajor_val_four]; show ((0 * 1 + 0) * 256 + t.val) * 128 + d.val = t.val * 128 + d.val; omega), ← hy]
  refine congrArg x (funext fun a => Fin.ext ?_)
  match a with
  | ⟨0, _⟩ => rfl
  | ⟨1, _⟩ => show g.val + 1 * 0 = g.val; omega
  | ⟨2, _⟩ => show 0 + 1 * t.val = t.val; omega
  | ⟨3, _⟩ => show 0 + 1 * d.val = d.val; omega

/-- Widening the codes changes no value. -/
theorem ldR_at (x : Vec Ideal S1x8x256x128 .fp8e4m3) (g : Fin 8) (t : Fin 256) (d : Fin 128) : (ldR x g (ix2 t d) : EReal) = x (ix4 0 g t d) :=
  plane_at x g t d

theorem ldT_at (x : Vec Ideal S1x8x256 .f32) (g : Fin 8) (t : Fin 256) : ldT x g (ix2 0 t) = x (ix3 0 g t) := by
  pointwise [ldT]

theorem ldN_at (x : Vec Ideal S1x1x8x128 .bf16) (g : Fin 8) (d : Fin 128) : (ldN x g (ix2 0 d) : EReal) = x (ix4 0 0 g d) := by
  pointwise [ldN]

/-- The score of recent token `t` for row `h` of the group, -/
def rScore (q : FVec Ideal S8x128 .bf16) (x3 : Vec Ideal S1x8x256x128 .fp8e4m3) (x5 : Vec Ideal S1x8x256 .f32) (g h : Fin 8) (t : Fin 256) : EReal :=
  (∑ e, q (ix2 h e) * (x3 (ix4 0 g t e) : EReal)) * (x5 (ix3 0 g t) * sc)

/-- and of the new token. -/
def nScore (q : FVec Ideal S8x128 .bf16) (x1 : Vec Ideal S1x1x8x128 .bf16) (g h : Fin 8) : EReal :=
  (∑ e, q (ix2 h e) * (x1 (ix4 0 0 g e) : EReal)) * sc

theorem recS_at (q : FVec Ideal S8x128 .bf16) (x3 : Vec Ideal S1x8x256x128 .fp8e4m3) (x5 : Vec Ideal S1x8x256 .f32) (g h : Fin 8) (t : Fin 256) :
    recS q x3 x5 g (ix2 h t) = rScore q x3 x5 g h t := by
  pointwise [recS]
  unfold rScore
  simp only [ldR_at, ldT_at]
  rw [scale_eq]

theorem newS_at (q : FVec Ideal S8x128 .bf16) (x1 : Vec Ideal S1x1x8x128 .bf16) (g h : Fin 8) : newS q x1 g (ix2 h 0) = nScore q x1 g h := by
  pointwise [newS, ldN]
  rw [scale_eq]
  rfl

theorem wideM_at (M : FVec Ideal S8x1 .f32) (h : Fin 8) (l : Fin 128) : wideM M (ix3 0 h l) = M (ix2 h 0) := by
  pointwise [wideM]

theorem wideL_at (P : FVec Ideal S8x256 .f32) (p : FVec Ideal S8x1 .f32) (h : Fin 8) (l : Fin 128) :
    wideL P p (ix3 0 h l) = ∑ t, P (ix2 h t) + p (ix2 h 0) := by
  pointwise [wideL, wideM]

theorem recP_at (S : FVec Ideal S8x256 .f32) (M : FVec Ideal S8x1 .f32) (h : Fin 8) (t : Fin 256) :
    recP S M (ix2 h t) = Ideal.exp2 (S (ix2 h t) - M (ix2 h 0)) := by
  pointwise [recP]
  rfl

theorem newP_at (n M : FVec Ideal S8x1 .f32) (h : Fin 8) : newP n M (ix2 h 0) = Ideal.exp2 (n (ix2 h 0) - M (ix2 h 0)) := by
  pointwise [newP]
  rfl

theorem wideA_at (P : FVec Ideal S8x256 .f32) (p : FVec Ideal S8x1 .f32) (x2 : Vec Ideal S1x1x8x128 .bf16) (x4 : Vec Ideal S1x8x256x128 .fp8e4m3)
    (x6 : Vec Ideal S1x8x256 .f32) (g h : Fin 8) (d : Fin 128) :
    wideA P p x2 x4 x6 g (ix3 0 h d) =
      ∑ t, P (ix2 h t) * (x6 (ix3 0 g t) * (x4 (ix4 0 g t d) : EReal)) + p (ix2 h 0) * (x2 (ix4 0 0 g d) : EReal) := by
  pointwise [wideA]
  simp only [ldR_at, ldT_at, ldN_at, mul_assoc]

variable (x0 : Vec Ideal S1x1x7168 .bf16) (x1 x2 : Vec Ideal S1x1x8x128 .bf16) (x3 x4 : Vec Ideal S1x8x256x128 .fp8e4m3) (x5 x6 : Vec Ideal S1x8x256 .f32)
  (g h : Fin 8)

theorem startM_at : startM x0 x1 x3 x5 g (ix2 h 0) = max (univ.sup (rScore (heads x0 g) x3 x5 g h)) (nScore (heads x0 g) x1 g h) := by
  unfold startM
  pointwise [fstM]
  rw [inf_eq, fold_sup, newS_at]
  simp only [recS_at]

theorem startL_at (l : Fin 128) :
    startL x0 x1 x3 x5 g (ix3 0 h l) =
      ∑ t, Ideal.exp2 (rScore (heads x0 g) x3 x5 g h t - max (univ.sup (rScore (heads x0 g) x3 x5 g h)) (nScore (heads x0 g) x1 g h)) +
        Ideal.exp2 (nScore (heads x0 g) x1 g h - max (univ.sup (rScore (heads x0 g) x3 x5 g h)) (nScore (heads x0 g) x1 g h)) := by
  unfold startL
  simp only [wideL_at, recP_at, newP_at, recS_at, newS_at, startM_at]

theorem startA_at (d : Fin 128) :
    startA x0 x1 x2 x3 x4 x5 x6 g (ix3 0 h d) =
      ∑ t, Ideal.exp2 (rScore (heads x0 g) x3 x5 g h t - max (univ.sup (rScore (heads x0 g) x3 x5 g h)) (nScore (heads x0 g) x1 g h)) *
          (x6 (ix3 0 g t) * (x4 (ix4 0 g t d) : EReal)) +
        Ideal.exp2 (nScore (heads x0 g) x1 g h - max (univ.sup (rScore (heads x0 g) x3 x5 g h)) (nScore (heads x0 g) x1 g h)) *
          (x2 (ix4 0 0 g d) : EReal) := by
  unfold startA
  simp only [wideA_at, recP_at, newP_at, recS_at, newS_at, startM_at]

/-- Column `896 g + 128 h + d` of the row written. -/
theorem outRow_at (A L : Vec Ideal S8x8x128 .f32) (g : Fin 8) (h : Fin 7) (d : Fin 128) :
    (outRow A L (ix3 0 0 ⟨896 * g.val + 128 * h.val + d.val, by omega⟩) : EReal) =
      Ideal.div (ld3 A g (ix3 0 ⟨h.val, by omega⟩ d)) (ld3 L g (ix3 0 ⟨h.val, by omega⟩ d)) := by
  have e1 : (⟨(896 * g.val + 128 * h.val + d.val) / 896, by omega⟩ : Fin 8) = g := Fin.ext (by dsimp only; omega)
  have e2 : (⟨(896 * g.val + 128 * h.val + d.val) % 896 / 128, by omega⟩ : Fin 8) = ⟨h.val, by omega⟩ := Fin.ext (by dsimp only; omega)
  have e3 : (⟨(896 * g.val + 128 * h.val + d.val) % 128, by omega⟩ : Fin 128) = d := Fin.ext (by dsimp only; omega)
  show ratio (ld3 A ⟨(896 * g.val + 128 * h.val + d.val) / 896, by omega⟩) (ld3 L ⟨(896 * g.val + 128 * h.val + d.val) / 896, by omega⟩)
    (ix2 ⟨(896 * g.val + 128 * h.val + d.val) % 896 / 128, by omega⟩ ⟨(896 * g.val + 128 * h.val + d.val) % 128, by omega⟩) = _
  rw [e1, e2, e3]
  pointwise [ratio]

/-- A plane read back. -/
theorem ld3_planes {F : FTy → Type} [FloatOps F] [Named F] (P : Fin 8 → FVec F S1x8x128 .f32) (g : Fin 8) : ld3 (planes P) g = P g := by
  funext x
  exact planes_at P g x _ (by simp) (by simp) (by simp)

end Cert.KernelIdeal.Step

end
-- ==== Proof.Blocks.lean ====
/- The blocks a grid point is given, read off the arrays: point `t` has row `t / 32` and, of the cache, tokens `2048 (t % 32) …`. -/
module

public import proofs.«01_k».proof.Proof.Step
public import Idealize.ShloMosaic.Lib.Pipeline.ValueKit

@[expose] public section

set_option maxRecDepth 16384

noncomputable section

namespace Cert.KernelIdeal.Step

open Idealize.ShloMosaic Idealize.ShloMosaic.TcCoe Idealize.ShloMosaic.Tactic
open Cert.KernelIdeal.Gen

/-- The block coordinates of the windows, from the grid point. -/
theorem idx_row : ∀ t : Fin cfg0.N,
    (win0_0.index t (0 : Fin 3) = t.val / 32 ∧ win0_0.index t (1 : Fin 3) = 0 ∧ win0_0.index t (2 : Fin 3) = 0) ∧
    (win0_1.index t (0 : Fin 4) = t.val / 32 ∧ win0_1.index t (1 : Fin 4) = 0 ∧ win0_1.index t (2 : Fin 4) = 0 ∧ win0_1.index t (3 : Fin 4) = 0) ∧
    (win0_2.index t (0 : Fin 4) = t.val / 32 ∧ win0_2.index t (1 : Fin 4) = 0 ∧ win0_2.index t (2 : Fin 4) = 0 ∧ win0_2.index t (3 : Fin 4) = 0) :=
  (by decide +kernel : ∀ t : Fin grid0.N, _)

theorem idx_recent : ∀ t : Fin cfg0.N,
    (win0_3.index t (0 : Fin 4) = t.val / 32 ∧ win0_3.index t (1 : Fin 4) = 0 ∧ win0_3.index t (2 : Fin 4) = 0 ∧ win0_3.index t (3 : Fin 4) = 0) ∧
    (win0_4.index t (0 : Fin 4) = t.val / 32 ∧ win0_4.index t (1 : Fin 4) = 0 ∧ win0_4.index t (2 : Fin 4) = 0 ∧ win0_4.index t (3 : Fin 4) = 0) ∧
    (win0_5.index t (0 : Fin 3) = t.val / 32 ∧ win0_5.index t (1 : Fin 3) = 0 ∧ win0_5.index t (2 : Fin 3) = 0) ∧
    (win0_6.index t (0 : Fin 3) = t.val / 32 ∧ win0_6.index t (1 : Fin 3) = 0 ∧ win0_6.index t (2 : Fin 3) = 0) :=
  (by decide +kernel : ∀ t : Fin grid0.N, _)

theorem idx_cache : ∀ t : Fin cfg0.N,
    (win0_7.index t (0 : Fin 4) = t.val / 32 ∧ win0_7.index t (1 : Fin 4) = 0 ∧ win0_7.index t (2 : Fin 4) = t.val % 32 ∧ win0_7.index t (3 : Fin 4) = 0) ∧
    (win0_8.index t (0 : Fin 4) = t.val / 32 ∧ win0_8.index t (1 : Fin 4) = 0 ∧ win0_8.index t (2 : Fin 4) = t.val % 32 ∧ win0_8.index t (3 : Fin 4) = 0) ∧
    (win0_9.index t (0 : Fin 3) = t.val / 32 ∧ win0_9.index t (1 : Fin 3) = 0 ∧ win0_9.index t (2 : Fin 3) = t.val % 32) ∧
    (win0_10.index t (0 : Fin 3) = t.val / 32 ∧ win0_10.index t (1 : Fin 3) = 0 ∧ win0_10.index t (2 : Fin 3) = t.val % 32) ∧
    (win0_11.index t (0 : Fin 3) = t.val / 32 ∧ win0_11.index t (1 : Fin 3) = 0 ∧ win0_11.index t (2 : Fin 3) = t.val % 32) :=
  (by decide +kernel : ∀ t : Fin grid0.N, _)

variable {F : FTy → Type} [FloatOps F] [Named F]
variable (m : (ℓ : Loc nD τ sig) → Buf (Elt F) ℓ) (c : Dev nD) (t : Fin cfg0.N) (b : Fin 5) (i : Fin 32) (hb : t.val / 32 = b.val) (hi : t.val % 32 = i.val)

include hb

theorem blk0 (e : Fin 7168) : iblk m c 0 t (ix3 0 0 e) = m ((c : Thread nD τ).loc main_arg0) (ix3 b 0 e) := by
  blk_ext [iblk, V, idx_row t, hb]

theorem blk1 (g : Fin 8) (e : Fin 128) : iblk m c 1 t (ix4 0 0 g e) = m ((c : Thread nD τ).loc main_arg1) (ix4 b 0 g e) := by
  blk_ext [iblk, V, idx_row t, hb]

theorem blk2 (g : Fin 8) (e : Fin 128) : iblk m c 2 t (ix4 0 0 g e) = m ((c : Thread nD τ).loc main_arg2) (ix4 b 0 g e) := by
  blk_ext [iblk, V, idx_row t, hb]

theorem blk3 (g : Fin 8) (r : Fin 256) (e : Fin 128) : iblk m c 3 t (ix4 0 g r e) = m ((c : Thread nD τ).loc main_arg7) (ix4 b g r e) := by
  blk_ext [iblk, V, idx_recent t, hb]

theorem blk4 (g : Fin 8) (r : Fin 256) (e : Fin 128) : iblk m c 4 t (ix4 0 g r e) = m ((c : Thread nD τ).loc main_arg8) (ix4 b g r e) := by
  blk_ext [iblk, V, idx_recent t, hb]

theorem blk5 (g : Fin 8) (r : Fin 256) : iblk m c 5 t (ix3 0 g r) = m ((c : Thread nD τ).loc main_arg9) (ix3 b g r) := by
  blk_ext [iblk, V, idx_recent t, hb]

theorem blk6 (g : Fin 8) (r : Fin 256) : iblk m c 6 t (ix3 0 g r) = m ((c : Thread nD τ).loc main_arg10) (ix3 b g r) := by
  blk_ext [iblk, V, idx_recent t, hb]

include hi

theorem blk7 (g : Fin 8) (j : Fin 2048) (e : Fin 128) :
    iblk m c 7 t (ix4 0 g j e) = m ((c : Thread nD τ).loc main_arg3) (ix4 b g ⟨2048 * i.val + j.val, by omega⟩ e) := by
  blk_ext [iblk, V, idx_cache t, hb, hi]

theorem blk8 (g : Fin 8) (j : Fin 2048) (e : Fin 128) :
    iblk m c 8 t (ix4 0 g j e) = m ((c : Thread nD τ).loc main_arg4) (ix4 b g ⟨2048 * i.val + j.val, by omega⟩ e) := by
  blk_ext [iblk, V, idx_cache t, hb, hi]

theorem blk9 (g : Fin 8) (j : Fin 2048) :
    iblk m c 9 t (ix3 0 g j) = m ((c : Thread nD τ).loc main_arg5) (ix3 b g ⟨2048 * i.val + j.val, by omega⟩) := by
  blk_ext [iblk, V, idx_cache t, hb, hi]

theorem blk10 (g : Fin 8) (j : Fin 2048) :
    iblk m c 10 t (ix3 0 g j) = m ((c : Thread nD τ).loc main_arg6) (ix3 b g ⟨2048 * i.val + j.val, by omega⟩) := by
  blk_ext [iblk, V, idx_cache t, hb, hi]

theorem blk11 (g : Fin 8) (j : Fin 512) :
    iblk m c 11 t (ix3 0 g j) = m ((c : Thread nD τ).loc main_arg11) (ix3 b g ⟨512 * i.val + j.val, by omega⟩) := by
  blk_ext [iblk, V, idx_cache t, hb, hi]

end Cert.KernelIdeal.Step

end
-- ==== Proof.Sweep.lean ====
/- The kernel's result over the extended reals: element `(b, 896 g + 128 h + d)` is the numerator over the denominator of row `b`, group `g`, head `h`,
   taken over the row's recent tokens, its new token and its 65536 cached tokens. By induction over a row's 32 grid points. -/
module

public import proofs.«01_k».proof.Proof.StepMax
public import proofs.«01_k».proof.Proof.StepDen
public import proofs.«01_k».proof.Proof.StepDen0
public import proofs.«01_k».proof.Proof.StepNum
public import proofs.«01_k».proof.Proof.StepNum0
public import proofs.«01_k».proof.Proof.StepOut
public import proofs.«01_k».proof.Proof.StartRead
public import proofs.«01_k».proof.Proof.Blocks

@[expose] public section

set_option maxRecDepth 16384

noncomputable section

namespace Cert.KernelIdeal.Step

open Idealize.ShloMosaic Idealize.ShloMosaic.TcCoe Idealize.ShloMosaic.Tactic
open Cert.KernelIdeal.Gen Cert.KernelIdeal.Value Cert.Online Finset

section Row

variable (m : (ℓ : Loc nD τ sig) → Buf (Elt Ideal) ℓ) (c : Dev nD) (b : Fin 5) (g : Fin 8) (h : Fin 7)

/-- The arguments: the query of a head, -/
def kQ (e : Fin 128) : EReal := m ((c : Thread nD τ).loc main_arg0) (ix3 b 0 ⟨896 * g.val + 128 * h.val + e.val, by omega⟩)

/-- the new key and value, -/
def aNk (e : Fin 128) : EReal := m ((c : Thread nD τ).loc main_arg1) (ix4 b 0 g e)
def aNv (e : Fin 128) : EReal := m ((c : Thread nD τ).loc main_arg2) (ix4 b 0 g e)

/-- the cached codes and their scales, -/
def aCk (j : Fin 65536) (e : Fin 128) : EReal := cv (m ((c : Thread nD τ).loc main_arg3) (ix4 b g j e))
def aCv (j : Fin 65536) (e : Fin 128) : EReal := cv (m ((c : Thread nD τ).loc main_arg4) (ix4 b g j e))
def aCks (j : Fin 65536) : EReal := m ((c : Thread nD τ).loc main_arg5) (ix3 b g j)
def aCvs (j : Fin 65536) : EReal := m ((c : Thread nD τ).loc main_arg6) (ix3 b g j)

/-- the recent ones, -/
def aRk (t : Fin 256) (e : Fin 128) : EReal := m ((c : Thread nD τ).loc main_arg7) (ix4 b g t e)
def aRv (t : Fin 256) (e : Fin 128) : EReal := m ((c : Thread nD τ).loc main_arg8) (ix4 b g t e)
def aRks (t : Fin 256) : EReal := m ((c : Thread nD τ).loc main_arg9) (ix3 b g t)
def aRvs (t : Fin 256) : EReal := m ((c : Thread nD τ).loc main_arg10) (ix3 b g t)

/-- and the bits. -/
def aBits (j : Fin 16384) : BitVec 32 := m ((c : Thread nD τ).loc main_arg11) (ix3 b g j)

/-- The score of recent token `t`, -/
def kR (t : Fin 256) : EReal := (∑ e, kQ m c b g h e * aRk m c b g t e) * (aRks m c b g t * sc)

/-- of the new token, -/
def kN : EReal := (∑ e, kQ m c b g h e * aNk m c b g e) * sc

/-- of cached token `j`, if its bit is set, -/
def kS (j : ℕ) : EReal :=
  if hj : j < 65536 then
    if (aBits m c b g ⟨128 * (j / 512) + j % 128, by omega⟩).getLsbD (8 * (j / 128 % 4) + h.val) then
      (∑ e, kQ m c b g h e * aCk m c b g ⟨j, hj⟩ e) * (aCks m c b g ⟨j, hj⟩ * sc)
    else ⊥
  else ⊥

/-- and the tokens' values at column `d`. -/
def kWr (d : Fin 128) (t : Fin 256) : EReal := aRvs m c b g t * aRv m c b g t d

def kW (d : Fin 128) (j : ℕ) : EReal := if hj : j < 65536 then aCvs m c b g ⟨j, hj⟩ * aCv m c b g ⟨j, hj⟩ d else 0

/-- Row `b` of the queries. -/
def xrow : Vec Ideal S1x1x7168 .bf16 := fun y => m ((c : Thread nD τ).loc main_arg0) (ix3 b 0 (y 2 : Fin 7168))

theorem heads_xrow (e : Fin 128) : @Eq EReal (heads (xrow m c b) g (ix2 ⟨h.val, by omega⟩ e)) (kQ m c b g h e) := heads_at _ g h e

variable (t : Fin cfg0.N) (hb : t.val / 32 = b.val)

include hb

theorem xrow_eq : iblk m c 0 t = xrow m c b := by
  funext y
  have e : y = ix3 0 0 (y 2 : Fin 7168) := by
    funext a
    match a with
    | ⟨0, _⟩ => exact Fin.ext (by have : (y 0 : ℕ) < 1 := (y 0).isLt; show (y 0 : ℕ) = 0; omega)
    | ⟨1, _⟩ => exact Fin.ext (by have : (y 1 : ℕ) < 1 := (y 1).isLt; show (y 1 : ℕ) = 0; omega)
    | ⟨2, _⟩ => rfl
  rw [e]
  exact blk0 m c t b hb _

theorem rScore_eq (r : Fin 256) : rScore (heads (xrow m c b) g) (iblk m c 3 t) (iblk m c 5 t) g ⟨h.val, by omega⟩ r = kR m c b g h r := by
  unfold rScore kR aRk aRks
  rw [blk5 m c t b hb]
  refine congrArg (fun z : EReal => z * _) (Finset.sum_congr rfl fun e _ => ?_)
  exact congrArg₂ (fun y z : EReal => y * z) (heads_xrow m c b g h e) (blk3 m c t b hb g r e)

theorem nScore_eq : nScore (heads (xrow m c b) g) (iblk m c 1 t) g ⟨h.val, by omega⟩ = kN m c b g h := by
  unfold nScore kN aNk
  refine congrArg (fun z : EReal => z * _) (Finset.sum_congr rfl fun e _ => ?_)
  exact congrArg₂ (fun y z : EReal => y * z) (heads_xrow m c b g h e) (blk1 m c t b hb g e)

variable (i : Fin 32) (hi : t.val % 32 = i.val)

include hi

theorem bScore_eq (j : Fin 2048) :
    bScore (heads (xrow m c b) g) (iblk m c 7 t) (iblk m c 9 t) (iblk m c 11 t) g ⟨h.val, by omega⟩ j = kS m c b g h (2048 * i.val + j.val) := by
  unfold bScore kS aBits aCk aCks
  rw [dif_pos (show 2048 * i.val + j.val < 65536 by omega), blk9 m c t b i hb hi, blk11 m c t b i hb hi]
  have e1 : (⟨512 * i.val + (128 * (j.val / 512) + j.val % 128), by omega⟩ : Fin 16384) =
      ⟨128 * ((2048 * i.val + j.val) / 512) + (2048 * i.val + j.val) % 128, by omega⟩ := Fin.ext (by dsimp only; omega)
  have e2 : (2048 * i.val + j.val) / 128 % 4 = j.val / 128 % 4 := by omega
  rw [e1, e2]
  refine if_congr Iff.rfl (congrArg (fun z : EReal => z * _) (Finset.sum_congr rfl fun e _ => ?_)) rfl
  exact congrArg₂ (fun (y : EReal) z => y * cv z) (heads_xrow m c b g h e) (blk7 m c t b i hb hi g j e)

/-- A block's value scale, as an extended real. -/
def scaleOf (x : Vec Ideal S1x8x2048 .f32) (j : Fin 2048) : EReal := x (ix3 0 g j)

theorem value_eq (d : Fin 128) (j : Fin 2048) :
    scaleOf g (iblk m c 10 t) j * cv (iblk m c 8 t (ix4 0 g j d)) = kW m c b g d (2048 * i.val + j.val) := by
  unfold kW scaleOf aCv aCvs
  rw [dif_pos (show 2048 * i.val + j.val < 65536 by omega), blk10 m c t b i hb hi, blk8 m c t b i hb hi]

end Row

variable (m : (ℓ : Loc nD τ sig) → Buf (Elt Ideal) ℓ) (c : Dev nD)

theorem ldQ_planesQ (P : Fin 8 → FVec Ideal S1x16x256 .bf16) (g : Fin 8) : ldQ (planesQ P) g = P g := by
  funext x
  exact planesQ_at P g x _ (by simp) (by simp) (by simp)

abbrev St := Vec Ideal S1x1x7168 .bf16 × Vec Ideal S8x16x256 .bf16 × Vec Ideal S8x8x128 .f32 × Vec Ideal S8x8x128 .f32 × Vec Ideal S8x8x128 .f32

/-- The maxima of row `b` over its first `N` cached tokens, -/
def HasM (b : Fin 5) (N : ℕ) (s : St) : Prop :=
  ∀ (g : Fin 8) (h : Fin 7) (x : Fin 128), ld3 s.2.2.1 g (ix3 0 ⟨h.val, by omega⟩ x) = mx (kR m c b g h) (kN m c b g h) (kS m c b g h) N

/-- the denominators, -/
def HasL (b : Fin 5) (N : ℕ) (s : St) : Prop :=
  ∀ (g : Fin 8) (h : Fin 7) (x : Fin 128), ld3 s.2.2.2.1 g (ix3 0 ⟨h.val, by omega⟩ x) = dn (kR m c b g h) (kN m c b g h) (kS m c b g h) N

/-- the numerators, -/
def HasA (b : Fin 5) (N : ℕ) (s : St) : Prop :=
  ∀ (g : Fin 8) (h : Fin 7) (d : Fin 128), ld3 s.2.2.2.2 g (ix3 0 ⟨h.val, by omega⟩ d) =
    nm (kR m c b g h) (kN m c b g h) (kS m c b g h) (kWr m c b g d) (aNv m c b g d) (kW m c b g d) N

/-- and its queries. -/
def HasQ (b : Fin 5) (s : St) : Prop := ∀ g : Fin 8, ldQ s.2.1 g = stacked (heads (xrow m c b) g)

section Plane

variable (b : Fin 5) (g : Fin 8) (h : Fin 7) (t : Fin cfg0.N) (i : Fin 32) (hb : t.val / 32 = b.val) (hi : t.val % 32 = i.val)
  (M L A : Vec Ideal S1x8x128 .f32)
  (hM : ∀ x, M (ix3 0 ⟨h.val, by omega⟩ x) = mx (kR m c b g h) (kN m c b g h) (kS m c b g h) (2048 * i.val))

include hb hi hM

/-- One block's update of the maximum, -/
theorem stepM (x : Fin 128) : planeM (stacked (heads (xrow m c b) g)) (iblk m c 7 t) (iblk m c 9 t) (iblk m c 11 t) M g (ix3 0 ⟨h.val, by omega⟩ x) =
    mx (kR m c b g h) (kN m c b g h) (kS m c b g h) (2048 * i.val + 2048) := by
  rw [planeM_at _ _ _ _ M g ⟨h.val, by omega⟩ _ hM, mx_add]
  simp only [funext (bScore_eq m c b g h t hb i hi)]

/-- of the denominator, -/
theorem stepL (hL : ∀ x, L (ix3 0 ⟨h.val, by omega⟩ x) = dn (kR m c b g h) (kN m c b g h) (kS m c b g h) (2048 * i.val)) (x : Fin 128) :
    planeL (stacked (heads (xrow m c b) g)) (iblk m c 7 t) (iblk m c 9 t) (iblk m c 11 t) M L g (ix3 0 ⟨h.val, by omega⟩ x) =
      dn (kR m c b g h) (kN m c b g h) (kS m c b g h) (2048 * i.val + 2048) := by
  rw [planeL_at _ _ _ _ M L g ⟨h.val, by omega⟩ _ hM, dn_add, mx_add, hL]
  simp only [funext (bScore_eq m c b g h t hb i hi)]

/-- and of the numerator. -/
theorem stepA (d : Fin 128) (hA : A (ix3 0 ⟨h.val, by omega⟩ d) =
      nm (kR m c b g h) (kN m c b g h) (kS m c b g h) (kWr m c b g d) (aNv m c b g d) (kW m c b g d) (2048 * i.val)) :
    planeA (stacked (heads (xrow m c b) g)) (iblk m c 7 t) (iblk m c 8 t) (iblk m c 9 t) (iblk m c 10 t) (iblk m c 11 t) M A g
        (ix3 0 ⟨h.val, by omega⟩ d) =
      nm (kR m c b g h) (kN m c b g h) (kS m c b g h) (kWr m c b g d) (aNv m c b g d) (kW m c b g d) (2048 * i.val + 2048) := by
  rw [planeA_at _ _ _ _ _ _ M A g ⟨h.val, by omega⟩ _ hM, nm_add, mx_add, hA]
  simp only [funext (bScore_eq m c b g h t hb i hi), ← value_eq m c b g t hb i hi]
  rfl

end Plane

/-- After a row's first block. -/
theorem has_first (b : Fin 5) (t : Fin cfg0.N) (hb : t.val / 32 = b.val) (hi : t.val % 32 = 0) (acc : St) :
    HasQ m c b (stAt0 m c t.val t.isLt acc) ∧ HasM m c b 2048 (stAt0 m c t.val t.isLt acc) ∧ HasL m c b 2048 (stAt0 m c t.val t.isLt acc) ∧
      HasA m c b 2048 (stAt0 m c t.val t.isLt acc) := by
  have hn : ¬t.val % 32 = 31 := by omega
  have hM : ∀ (g : Fin 8) (h : Fin 7) (x : Fin 128),
      wideM (startM (xrow m c b) (iblk m c 1 t) (iblk m c 3 t) (iblk m c 5 t) g) (ix3 0 ⟨h.val, by omega⟩ x) =
        mx (kR m c b g h) (kN m c b g h) (kS m c b g h) (2048 * (0 : Fin 32).val) := fun g h x => by
    rw [wideM_at, startM_at, nScore_eq m c b g h t hb, funext (rScore_eq m c b g h t hb)]
    exact (mx_zero _ _ _).symm
  refine ⟨fun g => ?_, fun g h x => ?_, fun g h x => ?_, fun g h d => ?_⟩
  · rw [firstQ m c t acc hi hn, ldQ_planesQ, xrow_eq m c b t hb]
  · rw [firstM m c t acc hi hn, ld3_planes, xrow_eq m c b t hb]
    exact stepM m c b g h t 0 hb hi _ (hM g h) x
  · rw [firstL m c t acc hi hn, ld3_planes, xrow_eq m c b t hb]
    refine stepL m c b g h t 0 hb hi _ _ (hM g h) (fun x => ?_) x
    rw [startL_at, nScore_eq m c b g h t hb, funext (rScore_eq m c b g h t hb)]
    exact (dn_zero _ _ _).symm
  · rw [firstA m c t acc hi hn, ld3_planes, xrow_eq m c b t hb]
    refine stepA m c b g h t 0 hb hi _ _ (hM g h) d ?_
    rw [startA_at, nScore_eq m c b g h t hb, funext (rScore_eq m c b g h t hb)]
    refine Eq.trans ?_ (nm_zero _ _ _ _ _ _).symm
    unfold kWr aRv aRvs aNv
    simp only [← blk6 m c t b hb, ← blk4 m c t b hb, ← blk2 m c t b hb]

/-- After a later block but the last. -/
theorem has_mid (b : Fin 5) (t : Fin cfg0.N) (i : Fin 32) (hb : t.val / 32 = b.val) (hi : t.val % 32 = i.val) (h0 : i.val ≠ 0) (h1 : i.val ≠ 31) (acc : St)
    (hQ : HasQ m c b acc) (hM : HasM m c b (2048 * i.val) acc) (hL : HasL m c b (2048 * i.val) acc) (hA : HasA m c b (2048 * i.val) acc) :
    HasQ m c b (stAt0 m c t.val t.isLt acc) ∧ HasM m c b (2048 * i.val + 2048) (stAt0 m c t.val t.isLt acc) ∧
      HasL m c b (2048 * i.val + 2048) (stAt0 m c t.val t.isLt acc) ∧ HasA m c b (2048 * i.val + 2048) (stAt0 m c t.val t.isLt acc) := by
  have ha : ¬t.val % 32 = 0 := by omega
  have hn : ¬t.val % 32 = 31 := by omega
  refine ⟨fun g => ?_, fun g h x => ?_, fun g h x => ?_, fun g h d => ?_⟩
  · rw [midQ m c t acc ha hn, hQ g]
  · rw [midM m c t acc ha hn, ld3_planes, hQ g]
    exact stepM m c b g h t i hb hi _ (hM g h) x
  · rw [midL m c t acc ha hn, ld3_planes, hQ g]
    exact stepL m c b g h t i hb hi _ _ (hM g h) (hL g h) x
  · rw [midA m c t acc ha hn, ld3_planes, hQ g]
    exact stepA m c b g h t i hb hi _ _ (hM g h) d (hA g h d)

/-- After the last. -/
theorem has_last (b : Fin 5) (t : Fin cfg0.N) (hb : t.val / 32 = b.val) (hi : t.val % 32 = 31) (acc : St)
    (hQ : HasQ m c b acc) (hM : HasM m c b (2048 * 31) acc) (hL : HasL m c b (2048 * 31) acc) (hA : HasA m c b (2048 * 31) acc) :
    HasL m c b 65536 (stAt0 m c t.val t.isLt acc) ∧ HasA m c b 65536 (stAt0 m c t.val t.isLt acc) := by
  have ha : ¬t.val % 32 = 0 := by omega
  refine ⟨fun g h x => ?_, fun g h d => ?_⟩
  · rw [lastL m c t acc ha hi, ld3_planes, hQ g]
    exact stepL m c b g h t 31 hb hi _ _ (hM g h) (hL g h) x
  · rw [lastA m c t acc ha hi, ld3_planes, hQ g]
    exact stepA m c b g h t 31 hb hi _ _ (hM g h) d (hA g h d)

theorem point_lt (b : Fin 5) (i : ℕ) (hi : i < 32) : 32 * b.val + i < cfg0.N := by rw [show cfg0.N = 160 from N_0]; omega

theorem outs_step (n : ℕ) (hn : n < cfg0.N) : ∃ acc : St, outsAt0 m c n hn = stAt0 m c n hn acc := by
  match n, hn with
  | 0, hn => exact ⟨_, outsAt0_zero m c hn⟩
  | n + 1, hn => exact ⟨_, outsAt0_succ m c n hn⟩

theorem has_outs (b : Fin 5) : ∀ (i : ℕ) (hi : i < 31),
    HasQ m c b (outsAt0 m c (32 * b.val + i) (point_lt b i (by omega))) ∧ HasM m c b (2048 * i + 2048) (outsAt0 m c (32 * b.val + i) (point_lt b i (by omega))) ∧
      HasL m c b (2048 * i + 2048) (outsAt0 m c (32 * b.val + i) (point_lt b i (by omega))) ∧
        HasA m c b (2048 * i + 2048) (outsAt0 m c (32 * b.val + i) (point_lt b i (by omega)))
  | 0, hi => by
    obtain ⟨acc, e⟩ := outs_step m c (32 * b.val + 0) (point_lt b 0 (by omega))
    rw [e]
    exact has_first m c b ⟨32 * b.val + 0, point_lt b 0 (by omega)⟩ (by dsimp only; omega) (by dsimp only; omega) acc
  | i + 1, hi => by
    obtain ⟨hQ, hM, hL, hA⟩ := has_outs b i (by omega)
    have e := outsAt0_succ m c (32 * b.val + i) (point_lt b (i + 1) (by omega))
    have e' : outsAt0 m c (32 * b.val + (i + 1)) (point_lt b (i + 1) (by omega)) = _ := e
    rw [e', show 2048 * (i + 1) + 2048 = 2048 * (i + 1) + 2048 from rfl]
    exact has_mid m c b ⟨32 * b.val + i + 1, point_lt b (i + 1) (by omega)⟩ ⟨i + 1, by omega⟩ (by dsimp only; omega) (by dsimp only; omega) (by dsimp only; omega)
      (by dsimp only; omega) _ hQ hM hL hA

/-- The result, element by element. -/
theorem G12_at (b : Fin 5) (g : Fin 8) (h : Fin 7) (d : Fin 128) :
    (G12 m c (ix3 b 0 ⟨896 * g.val + 128 * h.val + d.val, by omega⟩) : EReal) =
      Ideal.div (nm (kR m c b g h) (kN m c b g h) (kS m c b g h) (kWr m c b g d) (aNv m c b g d) (kW m c b g d) 65536)
        (dn (kR m c b g h) (kN m c b g h) (kS m c b g h) 65536) := by
  have hp : pt12Of (ix3 b 0 ⟨896 * g.val + 128 * h.val + d.val, by omega⟩) = 32 * b.val + 31 := by
    show 32 * (1 * (b.val / 1 - 0) + 1 * (0 / 1 - 0) + 1 * ((896 * g.val + 128 * h.val + d.val) / 7168 - 0)) + 31 = _
    omega
  have hl : loc12Of (ix3 b 0 ⟨896 * g.val + 128 * h.val + d.val, by omega⟩) = ix3 0 0 ⟨896 * g.val + 128 * h.val + d.val, by omega⟩ := by
    funext a
    match a with
    | ⟨0, _⟩ => exact Fin.ext (show b.val % 1 = 0 by omega)
    | ⟨1, _⟩ => rfl
    | ⟨2, _⟩ => exact Fin.ext (show (896 * g.val + 128 * h.val + d.val) % 7168 = _ by show _ = 896 * g.val + 128 * h.val + d.val; omega)
  obtain ⟨hQ, hM, hL, hA⟩ := has_outs m c b 30 (by omega)
  have hN := point_lt b 31 (by omega)
  unfold G12
  rw [dif_pos (by rw [hp]; exact hN), hl]
  rw [fold0_congr m c (pt12Of (ix3 b 0 ⟨896 * g.val + 128 * h.val + d.val, by omega⟩)) (by rw [hp]; omega) (32 * b.val + 31) (by omega) hp,
    ← outsAt0_sweep m c (32 * b.val + 31) hN]
  have e : outsAt0 m c (32 * b.val + 31) hN = stAt0 m c (32 * b.val + 31) hN (outsAt0 m c (32 * b.val + 30) (point_lt b 30 (by omega))) :=
    outsAt0_succ m c (32 * b.val + 30) hN
  rw [e]
  have ht0 : (⟨32 * b.val + 31, hN⟩ : Fin cfg0.N).val / 32 = b.val := by dsimp only; omega
  have ht : (⟨32 * b.val + 31, hN⟩ : Fin cfg0.N).val % 32 = 31 := by dsimp only; omega
  obtain ⟨rL, rA⟩ := has_last m c b ⟨32 * b.val + 31, hN⟩ ht0 ht _ hQ hM hL hA
  rw [lastO m c ⟨32 * b.val + 31, hN⟩ _ (by omega) ht, outRow_at, rL g h d, rA g h d]

end Cert.KernelIdeal.Step

end
-- ==== Proof.RefRead.lean ====
/- What the reference's operations hold at an index, over the extended reals, from the queries to the result. -/
module

public import proofs.«01_k».proof.Proof.BlockRead
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.ReferenceIdeal.Row

open Idealize.ShloMosaic Idealize.ShloMosaic.TcCoe Idealize.ShloMosaic.Tactic
open Cert.ReferenceIdeal.Gen Cert.ReferenceIdeal.Read Cert.ReferenceIdeal.Value Finset
open Cert.KernelIdeal.Step (cv inf_eq fold_sup)

section Region

variable (m : (ℓ : Loc nD τ sig) → Buf (Elt Ideal) ℓ) (c : Dev nD)

/-- The region's windows move together. -/
theorem idx : ∀ t : Fin cfg0.N, win0_0.index t = win0_2.index t ∧ win0_1.index t = win0_3.index t :=
  (by decide +kernel : ∀ t : Fin grid0.N, win0_0.index t = win0_2.index t ∧ win0_1.index t = win0_3.index t)

/-- The region leaves the recent keys as they are, -/
theorem region_keys : reg_main_v0_0 m c = fun y => m ((c : Thread nD τ).loc main_arg7) y := by
  unfold reg_main_v0_0
  refine (dats m 0 c).arrAt_eq_of_covers 2 (fun y => m ((c : Thread nD τ).loc main_arg7) y) (by decide +kernel) fun t _ y => ?_
  blk_simp
  rw [after0_2]
  frame_out
  pointwise [k0_pay1]
  blk_ext [iblk, V, idx t]

/-- and the recent values. -/
theorem region_values : reg_main_v0_1 m c = fun y => m ((c : Thread nD τ).loc main_arg8) y := by
  unfold reg_main_v0_1
  refine (dats m 0 c).arrAt_eq_of_covers 3 (fun y => m ((c : Thread nD τ).loc main_arg8) y) (by decide +kernel) fun t _ y => ?_
  blk_simp
  rw [after0_3]
  frame_out
  pointwise [k0_pay2]
  blk_ext [iblk, V, idx t]

end Region

variable (x0 : FVec Ideal S5x1x7168 .bf16) (x1 x2 : FVec Ideal S5x1x8x128 .bf16) (x3 x4 : Vec Ideal S5x8x65536x128 .i8)
  (x5 x6 : FVec Ideal S5x8x65536 .f32) (x9 x10 : FVec Ideal S5x8x256 .f32) (x11 : Vec Ideal S5x8x16384 .i32) (r0 r1 : FVec Ideal S5x8x256x128 .bf16)
  (b : Fin 5) (g : Fin 8) (h : Fin 7)

/-- The root of 128. -/
def root : EReal := ((Real.sqrt 128 : ℝ) : EReal)

/-- The query of a head. -/
def qAt (e : Fin 128) : EReal := x0 (ix3 b 0 ⟨896 * g.val + 128 * h.val + e.val, by omega⟩)

/-- The queries, -/
theorem q_at (e : Fin 128) : val_main_v19 (F := Ideal) x0 (ix4 b g h e) = qAt x0 b g h e := by
  unfold qAt
  pointwise [val_main_v19]
  exact congrArg (fun k => x0 (ix3 b 0 k)) (Fin.ext (by dsimp only; omega))

/-- the divisor of the scores, -/
theorem root_at : val_main_v5 (F := Ideal) ix0 = root := by
  pointwise [val_main_v5, val_main_cst]
  have e : Ideal.ofBits .f32 0x43000000#32 = ((128 : ℝ) : EReal) := by
    simp [Ideal.ofBits, Ideal.ieee]
    rw [← EReal.coe_mul]
    norm_num
  rw [e, Ideal.sqrt_coe, if_neg (by norm_num)]
  rfl

/-- the cached codes, keys -/
theorem codes_at (j : Fin 65536) (e : Fin 128) : val_main_v2 (F := Ideal) x3 (ix4 b g j e) = cv (x3 (ix4 b g j e)) := by
  pointwise [val_main_v2, val_main_v1]
  show ((((x3 (ix4 b g j e)).signExtend 32).toInt : ℝ) : EReal) = (((x3 (ix4 b g j e)).toInt : ℝ) : EReal)
  rw [BitVec.toInt_signExtend_of_le (by decide)]

/-- and values, -/
theorem codes_at' (j : Fin 65536) (e : Fin 128) : val_main_v4 (F := Ideal) x4 (ix4 b g j e) = cv (x4 (ix4 b g j e)) := codes_at x4 b g j e

/-- Shifting a word and keeping one bit tests that bit. -/
theorem bit_word (w : BitVec 32) (n : Fin 4) (k : Fin 7) :
    IntOp.cmpi .ne (IntOp.andi (IntOp.shrsi .host w (IntOp.addi (IntOp.muli 8#32 (BitVec.ofNat 32 n.val)) (BitVec.ofNat 32 k.val))) 1#32) 0#32 =
      BitVec.ofBool (w.getLsbD (8 * n.val + k.val)) := by
  have e : IntOp.addi (IntOp.muli 8#32 (BitVec.ofNat 32 n.val)) (BitVec.ofNat 32 k.val) = BitVec.ofNat 32 (8 * n.val + k.val) := by
    revert n k; decide
  have hk : (BitVec.ofNat 32 (8 * n.val + k.val)).toNat = 8 * n.val + k.val := by
    rw [BitVec.toNat_ofNat]; omega
  rw [e]
  unfold IntOp.shrsi
  rw [if_pos (by rw [hk]; omega)]
  unfold BitVec.sshiftRight'
  rw [hk]
  show BitVec.ofBool (w.sshiftRight (8 * n.val + k.val) &&& 1#32 != 0#32) = _
  congr 1
  rw [BitVec.and_one_eq_setWidth_ofBool_getLsbD, BitVec.getLsbD_sshiftRight]
  simp only [show ¬32 ≤ 0 by omega, decide_false, Bool.not_false, Bool.true_and, Nat.add_zero, show 8 * n.val + k.val < 32 by omega, ↓reduceIte]
  cases w.getLsbD (8 * n.val + k.val) <;> rfl

/-- The bit of cached token `j` for head `h`. -/
theorem valid_at (j : Fin 65536) : val_main_v18 (F := Ideal) x11 (ix4 b g h j) =
    BitVec.ofBool ((x11 (ix3 b g ⟨128 * (j.val / 512) + j.val % 128, by omega⟩)).getLsbD (8 * (j.val / 128 % 4) + h.val)) := by
  pointwise [val_main_v18, val_main_v17, val_main_v16, val_main_c_1, val_main_v15, val_main_v14, val_main_c_0, val_main_v13, val_main_v12, val_main_v11, val_main_v10, val_main_v9, val_main_v8, val_main_v7, val_main_c, val_main_v6]
  have e : (⟨j.val / 512 * 128 + j.val % 128, by omega⟩ : Fin 16384) = ⟨128 * (j.val / 512) + j.val % 128, by omega⟩ := Fin.ext (by dsimp only; omega)
  rw [e]
  exact bit_word _ ⟨j.val / 128 % 4, by omega⟩ h

/-- The score of a cached token, -/
theorem sel_at (j : Fin 65536) : val_main_v26 (F := Ideal) x0 x3 x5 x11 (ix4 b g h j) =
    if (x11 (ix3 b g ⟨128 * (j.val / 512) + j.val % 128, by omega⟩)).getLsbD (8 * (j.val / 128 % 4) + h.val) then
      Ideal.div ((∑ e, qAt x0 b g h e * cv (x3 (ix4 b g j e))) * x5 (ix3 b g j)) root else ⊥ := by
  pointwise [val_main_v26, val_main_call0_v1, val_main_call0_v0, id, val_main_cst_2, val_main_v25, val_main_v24, val_main_v23, val_main_v22, val_main_v21, val_main_v20]
  rw [valid_at, root_at, inf_eq]
  simp only [q_at, codes_at]
  unfold Scalar.select
  cases (x11 (ix3 b g ⟨128 * (j.val / 512) + j.val % 128, by omega⟩)).getLsbD (8 * (j.val / 128 % 4) + h.val) <;> rfl

/-- of a recent token, -/
theorem rec_at (t : Fin 256) : val_main_v32 (F := Ideal) x0 x9 r0 (ix4 b g h t) =
    Ideal.div ((∑ e, qAt x0 b g h e * r0 (ix4 b g t e)) * x9 (ix3 b g t)) root := by
  pointwise [val_main_v32, val_main_v31, val_main_v30, val_main_v29, val_main_v28, val_main_v27]
  rw [root_at]
  simp only [q_at]

/-- and of the new token. -/
theorem new_at : val_main_v36 (F := Ideal) x0 x1 (ix3 b g h) = Ideal.div (∑ e, qAt x0 b g h e * x1 (ix4 b 0 g e)) root := by
  pointwise [val_main_v36, val_main_v35, val_main_v34, val_main_v33]
  rw [root_at]
  simp only [q_at]

/-- The maximum over an axis of any size. -/
theorem maxOver_at {n : ℕ} (v : FVec Ideal ⟨4, ![5, 8, 7, n]⟩ .f32) (w) (hu) :
    Host.reduce (t := S5x8x7) (axes := [3]) FloatOps.maximumf v (constant S_ .f32 0xFF800000#32) w hu (ix3 b g h) = univ.sup fun j : Fin n => v (ix4 b g h j) := by
  pointwise
  rw [inf_eq]
  rfl

/-- The maximum of a row, -/
theorem max_at : val_main_v40 (F := Ideal) x0 x1 x3 x5 x9 x11 r0 (ix3 b g h) =
    max (max (univ.sup fun j => val_main_v26 (F := Ideal) x0 x3 x5 x11 (ix4 b g h j)) (univ.sup fun t => val_main_v32 (F := Ideal) x0 x9 r0 (ix4 b g h t)))
      (val_main_v36 (F := Ideal) x0 x1 (ix3 b g h)) := by
  rw [val_main_v40_apply, val_main_v39_apply]
  have e1 : val_main_v37 (F := Ideal) x0 x3 x5 x11 (ix3 b g h) = univ.sup fun j : Fin 65536 => val_main_v26 (F := Ideal) x0 x3 x5 x11 (ix4 b g h j) := by
    unfold val_main_v37 val_main_cst_3
    generalize val_main_v26 (F := Ideal) x0 x3 x5 x11 = v
    exact maxOver_at (n := 65536) b g h v reducesTo_S5x8x7x65536_S5x8x7_d3 h_S_
  have e2 : val_main_v38 (F := Ideal) x0 x9 r0 (ix3 b g h) = univ.sup fun t : Fin 256 => val_main_v32 (F := Ideal) x0 x9 r0 (ix4 b g h t) := by
    unfold val_main_v38 val_main_cst_4
    generalize val_main_v32 (F := Ideal) x0 x9 r0 = v
    exact maxOver_at (n := 256) b g h v reducesTo_S5x8x7x256_S5x8x7_d3 h_S_
  rw [e1, e2]
  rfl

/-- the exponentials, of cached, -/
theorem expSel_at (j : Fin 65536) : val_main_v44 (F := Ideal) x0 x1 x3 x5 x9 x11 r0 (ix4 b g h j) =
    Ideal.exp (val_main_v26 (F := Ideal) x0 x3 x5 x11 (ix4 b g h j) - val_main_v40 (F := Ideal) x0 x1 x3 x5 x9 x11 r0 (ix3 b g h)) := by
  rw [val_main_v44_apply, val_main_v43_apply, val_main_v42_apply, val_main_v41_apply]
  have e : idx_main_v41 (idx_main_v42 (ix4 b g h j)) = ix3 b g h := funext fun a => match a with
    | ⟨0, _⟩ => rfl
    | ⟨1, _⟩ => rfl
    | ⟨2, _⟩ => rfl
  rw [e]
  rfl

/-- recent -/
theorem expRec_at (t : Fin 256) : val_main_v48 (F := Ideal) x0 x1 x3 x5 x9 x11 r0 (ix4 b g h t) =
    Ideal.exp (val_main_v32 (F := Ideal) x0 x9 r0 (ix4 b g h t) - val_main_v40 (F := Ideal) x0 x1 x3 x5 x9 x11 r0 (ix3 b g h)) := by
  pointwise [val_main_v48, val_main_v47, val_main_v46, val_main_v45]

/-- and new token, -/
theorem expNew_at : val_main_v50 (F := Ideal) x0 x1 x3 x5 x9 x11 r0 (ix3 b g h) =
    Ideal.exp (val_main_v36 (F := Ideal) x0 x1 (ix3 b g h) - val_main_v40 (F := Ideal) x0 x1 x3 x5 x9 x11 r0 (ix3 b g h)) := by
  pointwise [val_main_v50, val_main_v49]

/-- and the denominator. -/
theorem den_at : val_main_v54 (F := Ideal) x0 x1 x3 x5 x9 x11 r0 (ix3 b g h) =
    (∑ j, val_main_v44 (F := Ideal) x0 x1 x3 x5 x9 x11 r0 (ix4 b g h j)) + (∑ t, val_main_v48 (F := Ideal) x0 x1 x3 x5 x9 x11 r0 (ix4 b g h t)) +
      val_main_v50 (F := Ideal) x0 x1 x3 x5 x9 x11 r0 (ix3 b g h) := by
  rw [val_main_v54_apply, val_main_v53_apply, val_main_v52_apply, val_main_v51_apply]
  have e0 : val_main_cst_5 (F := Ideal) (Shape.Idx.first h_S_) = (0 : EReal) := by pointwise [val_main_cst_5]
  have e0' : val_main_cst_6 (F := Ideal) (Shape.Idx.first h_S_) = (0 : EReal) := by pointwise [val_main_cst_6]
  have e1 : ∀ j, idx_main_v51 (ix3 b g h) j = ix4 b g h j := fun j => funext fun a => match a with
    | ⟨0, _⟩ => rfl
    | ⟨1, _⟩ => rfl
    | ⟨2, _⟩ => rfl
    | ⟨3, _⟩ => rfl
  have e2 : ∀ t, idx_main_v52 (ix3 b g h) t = ix4 b g h t := fun t => funext fun a => match a with
    | ⟨0, _⟩ => rfl
    | ⟨1, _⟩ => rfl
    | ⟨2, _⟩ => rfl
    | ⟨3, _⟩ => rfl
  simp only [e0, e0', e1, e2, zero_add]
  rfl

/-- The weighted values of the cached tokens, -/
theorem selOut_at (d : Fin 128) : val_main_v63 (F := Ideal) x0 x1 x3 x4 x5 x6 x9 x11 r0 (ix4 b g h d) =
    ∑ j, val_main_v44 (F := Ideal) x0 x1 x3 x5 x9 x11 r0 (ix4 b g h j) * x6 (ix3 b g j) * cv (x4 (ix4 b g j d)) := by
  rw [val_main_v63_apply]
  refine sum_congr rfl fun j _ => ?_
  have e1 : lidx_main_v63 (ix4 b g h d) j = ix4 b g h j := funext fun a => match a with
    | ⟨0, _⟩ => rfl
    | ⟨1, _⟩ => rfl
    | ⟨2, _⟩ => rfl
    | ⟨3, _⟩ => rfl
  have e2 : ridx_main_v63 (ix4 b g h d) j = ix4 b g j d := funext fun a => match a with
    | ⟨0, _⟩ => rfl
    | ⟨1, _⟩ => rfl
    | ⟨2, _⟩ => rfl
    | ⟨3, _⟩ => rfl
  have e3 : idx_main_v55 (idx_main_v56 (ix4 b g h j)) = ix3 b g j := funext fun a => match a with
    | ⟨0, _⟩ => rfl
    | ⟨1, _⟩ => rfl
    | ⟨2, _⟩ => rfl
  rw [e1, e2, codes_at', val_main_v58_apply, val_main_v57_apply, val_main_v56_apply, val_main_v55_apply, e3]
  rfl

/-- of the recent tokens, -/
theorem recOut_at (d : Fin 128) : val_main_v64 (F := Ideal) x0 x1 x3 x5 x9 x10 x11 r0 r1 (ix4 b g h d) =
    ∑ t, val_main_v48 (F := Ideal) x0 x1 x3 x5 x9 x11 r0 (ix4 b g h t) * x10 (ix3 b g t) * r1 (ix4 b g t d) := by
  pointwise [val_main_v64, val_main_v62, val_main_v61, val_main_v60, val_main_v59]

/-- of the new token, -/
theorem newOut_at (d : Fin 128) : val_main_v71 (F := Ideal) x0 x1 x2 x3 x5 x9 x11 r0 (ix4 b g h d) =
    val_main_v50 (F := Ideal) x0 x1 x3 x5 x9 x11 r0 (ix3 b g h) * x2 (ix4 b 0 g d) := by
  pointwise [val_main_v71, val_main_v70, val_main_v69, val_main_v68, val_main_v67, val_main_v66, val_main_v65]

/-- and the numerator. -/
theorem num_at (d : Fin 128) : val_main_v73 (F := Ideal) x0 x1 x2 x3 x4 x5 x6 x9 x10 x11 r0 r1 (ix4 b g h d) =
    (∑ j, val_main_v44 (F := Ideal) x0 x1 x3 x5 x9 x11 r0 (ix4 b g h j) * x6 (ix3 b g j) * cv (x4 (ix4 b g j d))) +
      (∑ t, val_main_v48 (F := Ideal) x0 x1 x3 x5 x9 x11 r0 (ix4 b g h t) * x10 (ix3 b g t) * r1 (ix4 b g t d)) +
      val_main_v50 (F := Ideal) x0 x1 x3 x5 x9 x11 r0 (ix3 b g h) * x2 (ix4 b 0 g d) := by
  rw [val_main_v73_apply, val_main_v72_apply, selOut_at, recOut_at, newOut_at]
  rfl

/-- The result. -/
theorem out_at (d : Fin 128) : val_main_v78 (F := Ideal) x0 x1 x2 x3 x4 x5 x6 x9 x10 x11 r0 r1 (ix3 b 0 ⟨896 * g.val + 128 * h.val + d.val, by omega⟩) =
    Ideal.div (val_main_v73 (F := Ideal) x0 x1 x2 x3 x4 x5 x6 x9 x10 x11 r0 r1 (ix4 b g h d)) (val_main_v54 (F := Ideal) x0 x1 x3 x5 x9 x11 r0 (ix3 b g h)) := by
  pointwise [val_main_v78, val_main_v77, val_main_v76, val_main_v75, val_main_v74]

end Cert.ReferenceIdeal.Row

end
-- ==== Proof.Natural.lean ====
/- A row's sums over base-two scores are the sums over its natural scores. -/
module

public import proofs.«01_k».proof.Proof.Online

@[expose] public section

noncomputable section

namespace Cert.Online

open Idealize.ShloMosaic Finset

variable {T N : ℕ} {r : Fin T → EReal} {n : EReal} {s : ℕ → EReal} {wr : Fin T → EReal} {w : ℕ → EReal} {r' : Fin T → EReal} {n' : EReal} {s' : Fin N → EReal}
  {ur vr : Fin T → EReal} {us vs : Fin N → EReal} (wn : EReal)

/-- The maximum of the natural scores, those of the cached tokens first. -/
def mxNat (r' : Fin T → EReal) (n' : EReal) (s' : Fin N → EReal) : EReal := max (max (univ.sup s') (univ.sup r')) n'

theorem sup_range (f : ℕ → EReal) : (range N).sup f = univ.sup fun j : Fin N => f j :=
  le_antisymm (Finset.sup_le fun j hj => Finset.le_sup (f := fun j : Fin N => f j) (mem_univ ⟨j, mem_range.mp hj⟩))
    (Finset.sup_le fun j _ => Finset.le_sup (f := f) (mem_range.mpr j.isLt))

variable (hr : ∀ t, r t = r' t * (lg : EReal)) (hn : n = n' * (lg : EReal)) (hs : ∀ j : Fin N, s j = s' j * (lg : EReal))

include hr hn hs

theorem mx_nat : mx r n s N = mxNat r' n' s' * (lg : EReal) := by
  unfold mx mxNat
  rw [sup_range, funext hr, hn, funext hs, sup_lg, sup_lg, max_lg, max_lg, max_comm, max_assoc]

theorem exp2_nat {x x' : EReal} (h : x = x' * (lg : EReal)) : Ideal.exp2 (x - mx r n s N) = Ideal.exp (x' - mxNat r' n' s') := by
  rw [mx_nat hr hn hs, h, ← sub_lg, exp2_lg]

/-- The denominator, -/
theorem dn_nat : dn r n s N =
    (∑ j, Ideal.exp (s' j - mxNat r' n' s')) + (∑ t, Ideal.exp (r' t - mxNat r' n' s')) + Ideal.exp (n' - mxNat r' n' s') := by
  unfold dn
  rw [Finset.sum_range, exp2_nat hr hn hs hn, sum_congr rfl fun t _ => exp2_nat hr hn hs (hr t), sum_congr rfl fun j _ => exp2_nat hr hn hs (hs j),
    add_comm, ← add_assoc]

/-- and the numerator, a value being a scale times a code. -/
theorem nm_nat (hwr : ∀ t, wr t = ur t * vr t) (hw : ∀ j : Fin N, w j = us j * vs j) : nm r n s wr wn w N =
    (∑ j, Ideal.exp (s' j - mxNat r' n' s') * us j * vs j) + (∑ t, Ideal.exp (r' t - mxNat r' n' s') * ur t * vr t) + Ideal.exp (n' - mxNat r' n' s') * wn := by
  unfold nm
  have e1 : ∀ t, Ideal.exp2 (r t - mx r n s N) * wr t = Ideal.exp (r' t - mxNat r' n' s') * ur t * vr t := fun t => by
    rw [exp2_nat hr hn hs (hr t), hwr, mul_assoc]
  have e2 : ∀ j : Fin N, Ideal.exp2 (s j - mx r n s N) * w j = Ideal.exp (s' j - mxNat r' n' s') * us j * vs j := fun j => by
    rw [exp2_nat hr hn hs (hs j), hw, mul_assoc]
  rw [Finset.sum_range, exp2_nat hr hn hs hn, sum_congr rfl fun t _ => e1 t, sum_congr rfl fun j _ => e2 j, add_comm, ← add_assoc]

end Cert.Online

end
-- ==== Proof.Bridge.lean ====
/- The two programs' results agree over the extended reals: at every element the kernel's quotient of sums, over base-two scores and in the kernel's
   order, is the reference's, over natural scores and in its own. -/
module

public import proofs.«01_k».proof.Defs
public import proofs.«01_k».proof.Proof.Sweep
public import proofs.«01_k».proof.Proof.RefRead
public import proofs.«01_k».proof.Proof.Natural
public import proofs.«01_k».proof.Proof.Gen.ReferenceIdeal.Run
public import Idealize.ShloMosaic.Lib.StableHlo.RunHlo

@[expose] public section

set_option maxRecDepth 16384

noncomputable section

namespace Cert.Bridge

open Idealize.ShloMosaic Idealize.ShloMosaic.TcCoe Idealize.SL.Sem Cert.KernelIdeal Cert.KernelIdeal.Step Cert.Online Finset
open Cert.ReferenceIdeal.Row Cert.ReferenceIdeal.Read

/-- Dividing by the root and passing to base two is one scaling. -/
theorem score_lg (a : EReal) : a * sc = Ideal.div a root * (lg : EReal) := by
  unfold root sc
  rw [Ideal.div_coe (Real.sqrt_ne_zero'.mpr (by norm_num)), mul_assoc, ← EReal.coe_mul]
  congr 2
  rw [one_div]
  rfl

section Row

variable (m : (ℓ : Loc nD τ sig) → Buf (Elt Ideal) ℓ) (c : Dev nD) (b : Fin 5) (g : Fin 8) (h : Fin 7)

/-- The arguments by the reference's types. -/
abbrev X0 : FVec Ideal ReferenceIdeal.S5x1x7168 .bf16 := m ((c : Thread nD τ).loc main_arg0)
abbrev X1 : FVec Ideal ReferenceIdeal.S5x1x8x128 .bf16 := m ((c : Thread nD τ).loc main_arg1)
abbrev X2 : FVec Ideal ReferenceIdeal.S5x1x8x128 .bf16 := m ((c : Thread nD τ).loc main_arg2)
abbrev X3 : Vec Ideal ReferenceIdeal.S5x8x65536x128 .i8 := m ((c : Thread nD τ).loc main_arg3)
abbrev X4 : Vec Ideal ReferenceIdeal.S5x8x65536x128 .i8 := m ((c : Thread nD τ).loc main_arg4)
abbrev X5 : FVec Ideal ReferenceIdeal.S5x8x65536 .f32 := m ((c : Thread nD τ).loc main_arg5)
abbrev X6 : FVec Ideal ReferenceIdeal.S5x8x65536 .f32 := m ((c : Thread nD τ).loc main_arg6)
abbrev X7 : FVec Ideal ReferenceIdeal.S5x8x256x128 .bf16 := fun y => m ((c : Thread nD τ).loc main_arg7) y
abbrev X8 : FVec Ideal ReferenceIdeal.S5x8x256x128 .bf16 := fun y => m ((c : Thread nD τ).loc main_arg8) y
abbrev X9 : FVec Ideal ReferenceIdeal.S5x8x256 .f32 := m ((c : Thread nD τ).loc main_arg9)
abbrev X10 : FVec Ideal ReferenceIdeal.S5x8x256 .f32 := m ((c : Thread nD τ).loc main_arg10)
abbrev X11 : Vec Ideal ReferenceIdeal.S5x8x16384 .i32 := m ((c : Thread nD τ).loc main_arg11)

/-- The reference's scores: of the recent tokens, -/
def nR (t : Fin 256) : EReal := val_main_v32 (F := Ideal) (X0 m c) (X9 m c) (X7 m c) (ix4 b g h t)

/-- of the new token, -/
def nN : EReal := val_main_v36 (F := Ideal) (X0 m c) (X1 m c) (ix3 b g h)

/-- and of the cached tokens. -/
def nS (j : Fin 65536) : EReal := val_main_v26 (F := Ideal) (X0 m c) (X3 m c) (X5 m c) (X11 m c) (ix4 b g h j)

theorem kR_nat (t : Fin 256) : kR m c b g h t = nR m c b g h t * (lg : EReal) := by
  unfold nR
  rw [rec_at, ← score_lg, mul_assoc]
  rfl

theorem kN_nat : kN m c b g h = nN m c b g h * (lg : EReal) := by
  unfold nN
  rw [new_at, ← score_lg]
  rfl

theorem kS_nat (j : Fin 65536) : kS m c b g h j = nS m c b g h j * (lg : EReal) := by
  unfold nS
  rw [sel_at]
  unfold kS
  rw [dif_pos j.isLt]
  by_cases hb : (X11 m c (ix3 b g ⟨128 * (j.val / 512) + j.val % 128, by omega⟩)).getLsbD (8 * (j.val / 128 % 4) + h.val) = true
  · rw [if_pos hb, ← score_lg, mul_assoc]
    exact if_pos hb
  · rw [if_neg hb, EReal.bot_mul_coe_of_pos lg_pos]
    exact if_neg hb

theorem max_nat : val_main_v40 (F := Ideal) (X0 m c) (X1 m c) (X3 m c) (X5 m c) (X9 m c) (X11 m c) (X7 m c) (ix3 b g h) =
    mxNat (nR m c b g h) (nN m c b g h) (nS m c b g h) := max_at _ _ _ _ _ _ _ b g h

theorem den_eq : val_main_v54 (F := Ideal) (X0 m c) (X1 m c) (X3 m c) (X5 m c) (X9 m c) (X11 m c) (X7 m c) (ix3 b g h) =
    dn (kR m c b g h) (kN m c b g h) (kS m c b g h) 65536 := by
  rw [dn_nat (kR_nat m c b g h) (kN_nat m c b g h) (kS_nat m c b g h), den_at, expNew_at, max_nat]
  refine congrArg₂ (· + ·) (congrArg₂ (· + ·) (sum_congr rfl fun j _ => ?_) (sum_congr rfl fun t _ => ?_)) rfl
  · rw [expSel_at, max_nat]; rfl
  · rw [expRec_at, max_nat]; rfl

theorem num_eq (d : Fin 128) :
    val_main_v73 (F := Ideal) (X0 m c) (X1 m c) (X2 m c) (X3 m c) (X4 m c) (X5 m c) (X6 m c) (X9 m c) (X10 m c) (X11 m c) (X7 m c) (X8 m c) (ix4 b g h d) =
    nm (kR m c b g h) (kN m c b g h) (kS m c b g h) (kWr m c b g d) (aNv m c b g d) (kW m c b g d) 65536 := by
  rw [nm_nat (wr := kWr m c b g d) (w := kW m c b g d) (aNv m c b g d) (kR_nat m c b g h) (kN_nat m c b g h) (kS_nat m c b g h) (ur := aRvs m c b g) (vr := fun t => aRv m c b g t d)
    (us := aCvs m c b g) (vs := fun j => aCv m c b g j d) (fun _ => rfl) (fun j => dif_pos j.isLt), num_at, expNew_at, max_nat]
  refine congrArg₂ (· + ·) (congrArg₂ (· + ·) (sum_congr rfl fun j _ => ?_) (sum_congr rfl fun t _ => ?_)) rfl
  · rw [expSel_at, max_nat]; rfl
  · rw [expRec_at, max_nat]; rfl

end Row

/-- The results agree at every element. -/
theorem value_eq (m : (ℓ : Loc nD τ sig) → Buf (Elt Ideal) ℓ) (c : Dev nD) :
    val_main_v78 (F := Ideal) (X0 m c) (X1 m c) (X2 m c) (X3 m c) (X4 m c) (X5 m c) (X6 m c) (X9 m c) (X10 m c) (X11 m c) (X7 m c) (X8 m c) = Value.G12 m c := by
  funext y
  have hy2 : (y 2).val < 7168 := (y 2).isLt
  have hy : y = ix3 (y 0) 0 ⟨896 * (y 2).val.div 896 + 128 * ((y 2).val % 896).div 128 + (y 2).val % 128, by
      show 896 * ((y 2).val / 896) + 128 * ((y 2).val % 896 / 128) + (y 2).val % 128 < 7168; omega⟩ := funext fun a => match a with
    | ⟨0, _⟩ => rfl
    | ⟨1, h⟩ => Fin.ext (by have h1 : (y ⟨1, h⟩).val < 1 := (y ⟨1, h⟩).isLt; show (y ⟨1, h⟩).val = 0; omega)
    | ⟨2, _⟩ => Fin.ext (by show (y 2).val = 896 * ((y 2).val / 896) + 128 * ((y 2).val % 896 / 128) + (y 2).val % 128; omega)
  rw [hy]
  have e := G12_at m c (y 0) ⟨(y 2).val / 896, by omega⟩ ⟨(y 2).val % 896 / 128, by omega⟩ ⟨(y 2).val % 128, by omega⟩
  refine (out_at (X0 m c) (X1 m c) (X2 m c) (X3 m c) (X4 m c) (X5 m c) (X6 m c) (X9 m c) (X10 m c) (X11 m c) (X7 m c) (X8 m c) (y 0)
    ⟨(y 2).val / 896, by omega⟩ ⟨(y 2).val % 896 / 128, by omega⟩ ⟨(y 2).val % 128, by omega⟩).trans (Eq.trans ?_ e.symm)
  exact congrArg₂ Ideal.div (num_eq m c (y 0) ⟨(y 2).val / 896, by omega⟩ ⟨(y 2).val % 896 / 128, by omega⟩ ⟨(y 2).val % 128, by omega⟩)
    (den_eq m c (y 0) ⟨(y 2).val / 896, by omega⟩ ⟨(y 2).val % 896 / 128, by omega⟩)

/-- The kernel computes what the reference computes. -/
theorem algebraic [KernelIdeal.Facts] [ReferenceIdeal.Facts] : Cert.algebraic_KernelIdeal_ReferenceIdeal := by
  intro m g m' g' _ hm
  refine ⟨fun c => Value.G12 m c, Value.run m g, θ_run_mono (ReferenceIdeal.Value.run m' g') fun r hr c => ?_⟩
  obtain ⟨h0, hk⟩ := hr c
  obtain ⟨a0, a1, a2, a3, a4, a5, a6, a7, a8, a9, a10, a11⟩ := hm c
  refine ⟨h0.trans ?_, hk⟩
  rw [val_main_v78_eq, ReferenceIdeal.Value.exit_main_arg0, ReferenceIdeal.Value.exit_main_arg1, ReferenceIdeal.Value.exit_main_arg2,
    ReferenceIdeal.Value.exit_main_arg3, ReferenceIdeal.Value.exit_main_arg4, ReferenceIdeal.Value.exit_main_arg5, ReferenceIdeal.Value.exit_main_arg6,
    ReferenceIdeal.Value.exit_main_arg9, ReferenceIdeal.Value.exit_main_arg10, ReferenceIdeal.Value.exit_main_arg11,
    ReferenceIdeal.Value.exit_main_v0_0, ReferenceIdeal.Value.exit_main_v0_1, region_keys, region_values,
    a0, a1, a2, a3, a4, a5, a6, a7, a8, a9, a10, a11]
  exact value_eq m c

end Cert.Bridge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Bridge
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    ⟨IdealRules.named_const.statement Cert.KernelIdeal.κ "score_scale" .f32 0x3E0293EE#32 _ rfl,
      IdealRules.named_const.statement Cert.KernelIdeal.κ "mask" .f32 0xF149F2CA#32 _ rfl⟩,
    Cert.Bridge.algebraic⟩

end Cert.Proof

end
